-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 64]⟩ ⟨2, ![1024, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x1024 : Shape := ⟨2, ![1024, 1024]⟩
abbrev S1024x64 : Shape := ⟨2, ![1024, 64]⟩
abbrev S16x64x64 : Shape := ⟨3, ![16, 64, 64]⟩
abbrev S_ : Shape := ⟨0, ![]⟩
abbrev S15 : Shape := ⟨1, ![15]⟩
abbrev S64x64 : Shape := ⟨2, ![64, 64]⟩
abbrev S1x64x64 : Shape := ⟨3, ![1, 64, 64]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S64x1024, .f32⟩
  | .hbm, ⟨1, _⟩ => ⟨S1024x1024, .f32⟩
  | .hbm, ⟨2, _⟩ => ⟨S1024x64, .bf16⟩
  | .local _ .vmem, ⟨0, _⟩ => ⟨S1024x64, .bf16⟩
  | .local _ .vmem, ⟨1, _⟩ => ⟨S64x1024, .f32⟩
  | .local _ .vmem, ⟨2, _⟩ => ⟨S1024x1024, .f32⟩
  | .local _ .vmem, ⟨3, _⟩ => ⟨S64x1024, .f32⟩
  | .local _ .vmem, ⟨4, _⟩ => ⟨S16x64x64, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v285 : Index := Scalar.indexCast v2
  let c0_190 : Index := 0#32
  let c0_191 : Index := 0#32
  ![v285.toNat, 0, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v288 : BitVec 32 := Scalar.muli v2 c64_i32
  let v289 : Index := Scalar.indexCast v288
  let c0_192 : Index := 0#32
  ![v289.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_201 : BitVec 32 := 64#32
  let v302 : BitVec 32 := Scalar.muli v2 c64_i32_201
  let c0_i32_206 : BitVec 32 := 0#32
  ![v302.toNat, 0]
def k0_off4 (d0 : Dev nD) (c1_i32_194 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v291 : BitVec 32 := Scalar.addi v2 c1_i32_194
  let c16_i32_195 : BitVec 32 := 16#32
  let c0_i32_196 : BitVec 32 := 0#32
  let v292 : BitVec 1 := Scalar.cmpi .eq c16_i32_195 c0_i32_196
  let c1_i32_197 : BitVec 32 := 1#32
  let v293 : BitVec 32 := Scalar.select v292 c1_i32_197 c16_i32_195
  let v294 : BitVec 32 := Scalar.remsi v291 v293
  let c0_i32_199 : BitVec 32 := 0#32
  let v296 : BitVec 1 := Scalar.cmpi .slt v294 c0_i32_199
  let c0_i32_200 : BitVec 32 := 0#32
  let v297 : BitVec 1 := Scalar.cmpi .slt v293 c0_i32_200
  let v298 : BitVec 1 := Scalar.xori v296 v297
  let c0_i32_198 : BitVec 32 := 0#32
  let v295 : BitVec 1 := Scalar.cmpi .ne v294 c0_i32_198
  let v299 : BitVec 1 := Scalar.andi v298 v295
  let v300 : BitVec 32 := Scalar.addi v294 v293
  let v301 : BitVec 32 := Scalar.select v299 v300 v294
  let c0_i32_207 : BitVec 32 := 0#32
  let c0_i32_208 : BitVec 32 := 0#32
  ![v301.toNat, 0, 0]
def k0_dev16 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_194 : BitVec 32 := 1#32
  let v291 : BitVec 32 := Scalar.addi v2 c1_i32_194
  let c16_i32_195 : BitVec 32 := 16#32
  let c0_i32_196 : BitVec 32 := 0#32
  let v292 : BitVec 1 := Scalar.cmpi .eq c16_i32_195 c0_i32_196
  let c1_i32_197 : BitVec 32 := 1#32
  let v293 : BitVec 32 := Scalar.select v292 c1_i32_197 c16_i32_195
  let v294 : BitVec 32 := Scalar.remsi v291 v293
  let c0_i32_199 : BitVec 32 := 0#32
  let v296 : BitVec 1 := Scalar.cmpi .slt v294 c0_i32_199
  let c0_i32_200 : BitVec 32 := 0#32
  let v297 : BitVec 1 := Scalar.cmpi .slt v293 c0_i32_200
  let v298 : BitVec 1 := Scalar.xori v296 v297
  let c0_i32_198 : BitVec 32 := 0#32
  let v295 : BitVec 1 := Scalar.cmpi .ne v294 c0_i32_198
  let v299 : BitVec 1 := Scalar.andi v298 v295
  let v300 : BitVec 32 := Scalar.addi v294 v293
  let v301 : BitVec 32 := Scalar.select v299 v300 v294
  let c1_i32_204 : BitVec 32 := 1#32
  let v303 : BitVec 32 := Scalar.muli v301 c1_i32_204
  let v304 : BitVec 32 := Scalar.addi c0_i32_205 v303
  v304.toNat
def k0_dev17 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_209 : BitVec 32 := 2#32
  let v312 : BitVec 32 := Scalar.addi v2 c2_i32_209
  let c16_i32_210 : BitVec 32 := 16#32
  let c0_i32_211 : BitVec 32 := 0#32
  let v313 : BitVec 1 := Scalar.cmpi .eq c16_i32_210 c0_i32_211
  let c1_i32_212 : BitVec 32 := 1#32
  let v314 : BitVec 32 := Scalar.select v313 c1_i32_212 c16_i32_210
  let v315 : BitVec 32 := Scalar.remsi v312 v314
  let c0_i32_214 : BitVec 32 := 0#32
  let v317 : BitVec 1 := Scalar.cmpi .slt v315 c0_i32_214
  let c0_i32_215 : BitVec 32 := 0#32
  let v318 : BitVec 1 := Scalar.cmpi .slt v314 c0_i32_215
  let v319 : BitVec 1 := Scalar.xori v317 v318
  let c0_i32_213 : BitVec 32 := 0#32
  let v316 : BitVec 1 := Scalar.cmpi .ne v315 c0_i32_213
  let v320 : BitVec 1 := Scalar.andi v319 v316
  let v321 : BitVec 32 := Scalar.addi v315 v314
  let v322 : BitVec 32 := Scalar.select v320 v321 v315
  let c1_i32_219 : BitVec 32 := 1#32
  let v324 : BitVec 32 := Scalar.muli v322 c1_i32_219
  let v325 : BitVec 32 := Scalar.addi c0_i32_220 v324
  v325.toNat
def k0_dev18 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_224 : BitVec 32 := 3#32
  let v333 : BitVec 32 := Scalar.addi v2 c3_i32_224
  let c16_i32_225 : BitVec 32 := 16#32
  let c0_i32_226 : BitVec 32 := 0#32
  let v334 : BitVec 1 := Scalar.cmpi .eq c16_i32_225 c0_i32_226
  let c1_i32_227 : BitVec 32 := 1#32
  let v335 : BitVec 32 := Scalar.select v334 c1_i32_227 c16_i32_225
  let v336 : BitVec 32 := Scalar.remsi v333 v335
  let c0_i32_229 : BitVec 32 := 0#32
  let v338 : BitVec 1 := Scalar.cmpi .slt v336 c0_i32_229
  let c0_i32_230 : BitVec 32 := 0#32
  let v339 : BitVec 1 := Scalar.cmpi .slt v335 c0_i32_230
  let v340 : BitVec 1 := Scalar.xori v338 v339
  let c0_i32_228 : BitVec 32 := 0#32
  let v337 : BitVec 1 := Scalar.cmpi .ne v336 c0_i32_228
  let v341 : BitVec 1 := Scalar.andi v340 v337
  let v342 : BitVec 32 := Scalar.addi v336 v335
  let v343 : BitVec 32 := Scalar.select v341 v342 v336
  let c1_i32_234 : BitVec 32 := 1#32
  let v345 : BitVec 32 := Scalar.muli v343 c1_i32_234
  let v346 : BitVec 32 := Scalar.addi c0_i32_235 v345
  v346.toNat
def k0_dev19 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_239 : BitVec 32 := 4#32
  let v354 : BitVec 32 := Scalar.addi v2 c4_i32_239
  let c16_i32_240 : BitVec 32 := 16#32
  let c0_i32_241 : BitVec 32 := 0#32
  let v355 : BitVec 1 := Scalar.cmpi .eq c16_i32_240 c0_i32_241
  let c1_i32_242 : BitVec 32 := 1#32
  let v356 : BitVec 32 := Scalar.select v355 c1_i32_242 c16_i32_240
  let v357 : BitVec 32 := Scalar.remsi v354 v356
  let c0_i32_244 : BitVec 32 := 0#32
  let v359 : BitVec 1 := Scalar.cmpi .slt v357 c0_i32_244
  let c0_i32_245 : BitVec 32 := 0#32
  let v360 : BitVec 1 := Scalar.cmpi .slt v356 c0_i32_245
  let v361 : BitVec 1 := Scalar.xori v359 v360
  let c0_i32_243 : BitVec 32 := 0#32
  let v358 : BitVec 1 := Scalar.cmpi .ne v357 c0_i32_243
  let v362 : BitVec 1 := Scalar.andi v361 v358
  let v363 : BitVec 32 := Scalar.addi v357 v356
  let v364 : BitVec 32 := Scalar.select v362 v363 v357
  let c1_i32_249 : BitVec 32 := 1#32
  let v366 : BitVec 32 := Scalar.muli v364 c1_i32_249
  let v367 : BitVec 32 := Scalar.addi c0_i32_250 v366
  v367.toNat
def k0_dev20 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_254 : BitVec 32 := 5#32
  let v375 : BitVec 32 := Scalar.addi v2 c5_i32_254
  let c16_i32_255 : BitVec 32 := 16#32
  let c0_i32_256 : BitVec 32 := 0#32
  let v376 : BitVec 1 := Scalar.cmpi .eq c16_i32_255 c0_i32_256
  let c1_i32_257 : BitVec 32 := 1#32
  let v377 : BitVec 32 := Scalar.select v376 c1_i32_257 c16_i32_255
  let v378 : BitVec 32 := Scalar.remsi v375 v377
  let c0_i32_259 : BitVec 32 := 0#32
  let v380 : BitVec 1 := Scalar.cmpi .slt v378 c0_i32_259
  let c0_i32_260 : BitVec 32 := 0#32
  let v381 : BitVec 1 := Scalar.cmpi .slt v377 c0_i32_260
  let v382 : BitVec 1 := Scalar.xori v380 v381
  let c0_i32_258 : BitVec 32 := 0#32
  let v379 : BitVec 1 := Scalar.cmpi .ne v378 c0_i32_258
  let v383 : BitVec 1 := Scalar.andi v382 v379
  let v384 : BitVec 32 := Scalar.addi v378 v377
  let v385 : BitVec 32 := Scalar.select v383 v384 v378
  let c1_i32_264 : BitVec 32 := 1#32
  let v387 : BitVec 32 := Scalar.muli v385 c1_i32_264
  let v388 : BitVec 32 := Scalar.addi c0_i32_265 v387
  v388.toNat
def k0_dev21 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_269 : BitVec 32 := 6#32
  let v396 : BitVec 32 := Scalar.addi v2 c6_i32_269
  let c16_i32_270 : BitVec 32 := 16#32
  let c0_i32_271 : BitVec 32 := 0#32
  let v397 : BitVec 1 := Scalar.cmpi .eq c16_i32_270 c0_i32_271
  let c1_i32_272 : BitVec 32 := 1#32
  let v398 : BitVec 32 := Scalar.select v397 c1_i32_272 c16_i32_270
  let v399 : BitVec 32 := Scalar.remsi v396 v398
  let c0_i32_274 : BitVec 32 := 0#32
  let v401 : BitVec 1 := Scalar.cmpi .slt v399 c0_i32_274
  let c0_i32_275 : BitVec 32 := 0#32
  let v402 : BitVec 1 := Scalar.cmpi .slt v398 c0_i32_275
  let v403 : BitVec 1 := Scalar.xori v401 v402
  let c0_i32_273 : BitVec 32 := 0#32
  let v400 : BitVec 1 := Scalar.cmpi .ne v399 c0_i32_273
  let v404 : BitVec 1 := Scalar.andi v403 v400
  let v405 : BitVec 32 := Scalar.addi v399 v398
  let v406 : BitVec 32 := Scalar.select v404 v405 v399
  let c1_i32_279 : BitVec 32 := 1#32
  let v408 : BitVec 32 := Scalar.muli v406 c1_i32_279
  let v409 : BitVec 32 := Scalar.addi c0_i32_280 v408
  v409.toNat
def k0_dev22 (d0 : Dev nD) : Nat :=
  let c0_i32_295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_284 : BitVec 32 := 7#32
  let v417 : BitVec 32 := Scalar.addi v2 c7_i32_284
  let c16_i32_285 : BitVec 32 := 16#32
  let c0_i32_286 : BitVec 32 := 0#32
  let v418 : BitVec 1 := Scalar.cmpi .eq c16_i32_285 c0_i32_286
  let c1_i32_287 : BitVec 32 := 1#32
  let v419 : BitVec 32 := Scalar.select v418 c1_i32_287 c16_i32_285
  let v420 : BitVec 32 := Scalar.remsi v417 v419
  let c0_i32_289 : BitVec 32 := 0#32
  let v422 : BitVec 1 := Scalar.cmpi .slt v420 c0_i32_289
  let c0_i32_290 : BitVec 32 := 0#32
  let v423 : BitVec 1 := Scalar.cmpi .slt v419 c0_i32_290
  let v424 : BitVec 1 := Scalar.xori v422 v423
  let c0_i32_288 : BitVec 32 := 0#32
  let v421 : BitVec 1 := Scalar.cmpi .ne v420 c0_i32_288
  let v425 : BitVec 1 := Scalar.andi v424 v421
  let v426 : BitVec 32 := Scalar.addi v420 v419
  let v427 : BitVec 32 := Scalar.select v425 v426 v420
  let c1_i32_294 : BitVec 32 := 1#32
  let v429 : BitVec 32 := Scalar.muli v427 c1_i32_294
  let v430 : BitVec 32 := Scalar.addi c0_i32_295 v429
  v430.toNat
def k0_dev23 (d0 : Dev nD) : Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_299 : BitVec 32 := 8#32
  let v438 : BitVec 32 := Scalar.addi v2 c8_i32_299
  let c16_i32_300 : BitVec 32 := 16#32
  let c0_i32_301 : BitVec 32 := 0#32
  let v439 : BitVec 1 := Scalar.cmpi .eq c16_i32_300 c0_i32_301
  let c1_i32_302 : BitVec 32 := 1#32
  let v440 : BitVec 32 := Scalar.select v439 c1_i32_302 c16_i32_300
  let v441 : BitVec 32 := Scalar.remsi v438 v440
  let c0_i32_304 : BitVec 32 := 0#32
  let v443 : BitVec 1 := Scalar.cmpi .slt v441 c0_i32_304
  let c0_i32_305 : BitVec 32 := 0#32
  let v444 : BitVec 1 := Scalar.cmpi .slt v440 c0_i32_305
  let v445 : BitVec 1 := Scalar.xori v443 v444
  let c0_i32_303 : BitVec 32 := 0#32
  let v442 : BitVec 1 := Scalar.cmpi .ne v441 c0_i32_303
  let v446 : BitVec 1 := Scalar.andi v445 v442
  let v447 : BitVec 32 := Scalar.addi v441 v440
  let v448 : BitVec 32 := Scalar.select v446 v447 v441
  let c1_i32_309 : BitVec 32 := 1#32
  let v450 : BitVec 32 := Scalar.muli v448 c1_i32_309
  let v451 : BitVec 32 := Scalar.addi c0_i32_310 v450
  v451.toNat
def k0_dev24 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_314 : BitVec 32 := 9#32
  let v459 : BitVec 32 := Scalar.addi v2 c9_i32_314
  let c16_i32_315 : BitVec 32 := 16#32
  let c0_i32_316 : BitVec 32 := 0#32
  let v460 : BitVec 1 := Scalar.cmpi .eq c16_i32_315 c0_i32_316
  let c1_i32_317 : BitVec 32 := 1#32
  let v461 : BitVec 32 := Scalar.select v460 c1_i32_317 c16_i32_315
  let v462 : BitVec 32 := Scalar.remsi v459 v461
  let c0_i32_319 : BitVec 32 := 0#32
  let v464 : BitVec 1 := Scalar.cmpi .slt v462 c0_i32_319
  let c0_i32_320 : BitVec 32 := 0#32
  let v465 : BitVec 1 := Scalar.cmpi .slt v461 c0_i32_320
  let v466 : BitVec 1 := Scalar.xori v464 v465
  let c0_i32_318 : BitVec 32 := 0#32
  let v463 : BitVec 1 := Scalar.cmpi .ne v462 c0_i32_318
  let v467 : BitVec 1 := Scalar.andi v466 v463
  let v468 : BitVec 32 := Scalar.addi v462 v461
  let v469 : BitVec 32 := Scalar.select v467 v468 v462
  let c1_i32_324 : BitVec 32 := 1#32
  let v471 : BitVec 32 := Scalar.muli v469 c1_i32_324
  let v472 : BitVec 32 := Scalar.addi c0_i32_325 v471
  v472.toNat
def k0_dev25 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_329 : BitVec 32 := 10#32
  let v480 : BitVec 32 := Scalar.addi v2 c10_i32_329
  let c16_i32_330 : BitVec 32 := 16#32
  let c0_i32_331 : BitVec 32 := 0#32
  let v481 : BitVec 1 := Scalar.cmpi .eq c16_i32_330 c0_i32_331
  let c1_i32_332 : BitVec 32 := 1#32
  let v482 : BitVec 32 := Scalar.select v481 c1_i32_332 c16_i32_330
  let v483 : BitVec 32 := Scalar.remsi v480 v482
  let c0_i32_334 : BitVec 32 := 0#32
  let v485 : BitVec 1 := Scalar.cmpi .slt v483 c0_i32_334
  let c0_i32_335 : BitVec 32 := 0#32
  let v486 : BitVec 1 := Scalar.cmpi .slt v482 c0_i32_335
  let v487 : BitVec 1 := Scalar.xori v485 v486
  let c0_i32_333 : BitVec 32 := 0#32
  let v484 : BitVec 1 := Scalar.cmpi .ne v483 c0_i32_333
  let v488 : BitVec 1 := Scalar.andi v487 v484
  let v489 : BitVec 32 := Scalar.addi v483 v482
  let v490 : BitVec 32 := Scalar.select v488 v489 v483
  let c1_i32_339 : BitVec 32 := 1#32
  let v492 : BitVec 32 := Scalar.muli v490 c1_i32_339
  let v493 : BitVec 32 := Scalar.addi c0_i32_340 v492
  v493.toNat
def k0_dev26 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_344 : BitVec 32 := 11#32
  let v501 : BitVec 32 := Scalar.addi v2 c11_i32_344
  let c16_i32_345 : BitVec 32 := 16#32
  let c0_i32_346 : BitVec 32 := 0#32
  let v502 : BitVec 1 := Scalar.cmpi .eq c16_i32_345 c0_i32_346
  let c1_i32_347 : BitVec 32 := 1#32
  let v503 : BitVec 32 := Scalar.select v502 c1_i32_347 c16_i32_345
  let v504 : BitVec 32 := Scalar.remsi v501 v503
  let c0_i32_349 : BitVec 32 := 0#32
  let v506 : BitVec 1 := Scalar.cmpi .slt v504 c0_i32_349
  let c0_i32_350 : BitVec 32 := 0#32
  let v507 : BitVec 1 := Scalar.cmpi .slt v503 c0_i32_350
  let v508 : BitVec 1 := Scalar.xori v506 v507
  let c0_i32_348 : BitVec 32 := 0#32
  let v505 : BitVec 1 := Scalar.cmpi .ne v504 c0_i32_348
  let v509 : BitVec 1 := Scalar.andi v508 v505
  let v510 : BitVec 32 := Scalar.addi v504 v503
  let v511 : BitVec 32 := Scalar.select v509 v510 v504
  let c1_i32_354 : BitVec 32 := 1#32
  let v513 : BitVec 32 := Scalar.muli v511 c1_i32_354
  let v514 : BitVec 32 := Scalar.addi c0_i32_355 v513
  v514.toNat
def k0_dev27 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_359 : BitVec 32 := 12#32
  let v522 : BitVec 32 := Scalar.addi v2 c12_i32_359
  let c16_i32_360 : BitVec 32 := 16#32
  let c0_i32_361 : BitVec 32 := 0#32
  let v523 : BitVec 1 := Scalar.cmpi .eq c16_i32_360 c0_i32_361
  let c1_i32_362 : BitVec 32 := 1#32
  let v524 : BitVec 32 := Scalar.select v523 c1_i32_362 c16_i32_360
  let v525 : BitVec 32 := Scalar.remsi v522 v524
  let c0_i32_364 : BitVec 32 := 0#32
  let v527 : BitVec 1 := Scalar.cmpi .slt v525 c0_i32_364
  let c0_i32_365 : BitVec 32 := 0#32
  let v528 : BitVec 1 := Scalar.cmpi .slt v524 c0_i32_365
  let v529 : BitVec 1 := Scalar.xori v527 v528
  let c0_i32_363 : BitVec 32 := 0#32
  let v526 : BitVec 1 := Scalar.cmpi .ne v525 c0_i32_363
  let v530 : BitVec 1 := Scalar.andi v529 v526
  let v531 : BitVec 32 := Scalar.addi v525 v524
  let v532 : BitVec 32 := Scalar.select v530 v531 v525
  let c1_i32_369 : BitVec 32 := 1#32
  let v534 : BitVec 32 := Scalar.muli v532 c1_i32_369
  let v535 : BitVec 32 := Scalar.addi c0_i32_370 v534
  v535.toNat
def k0_dev28 (d0 : Dev nD) : Nat :=
  let c0_i32_385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_374 : BitVec 32 := 13#32
  let v543 : BitVec 32 := Scalar.addi v2 c13_i32_374
  let c16_i32_375 : BitVec 32 := 16#32
  let c0_i32_376 : BitVec 32 := 0#32
  let v544 : BitVec 1 := Scalar.cmpi .eq c16_i32_375 c0_i32_376
  let c1_i32_377 : BitVec 32 := 1#32
  let v545 : BitVec 32 := Scalar.select v544 c1_i32_377 c16_i32_375
  let v546 : BitVec 32 := Scalar.remsi v543 v545
  let c0_i32_379 : BitVec 32 := 0#32
  let v548 : BitVec 1 := Scalar.cmpi .slt v546 c0_i32_379
  let c0_i32_380 : BitVec 32 := 0#32
  let v549 : BitVec 1 := Scalar.cmpi .slt v545 c0_i32_380
  let v550 : BitVec 1 := Scalar.xori v548 v549
  let c0_i32_378 : BitVec 32 := 0#32
  let v547 : BitVec 1 := Scalar.cmpi .ne v546 c0_i32_378
  let v551 : BitVec 1 := Scalar.andi v550 v547
  let v552 : BitVec 32 := Scalar.addi v546 v545
  let v553 : BitVec 32 := Scalar.select v551 v552 v546
  let c1_i32_384 : BitVec 32 := 1#32
  let v555 : BitVec 32 := Scalar.muli v553 c1_i32_384
  let v556 : BitVec 32 := Scalar.addi c0_i32_385 v555
  v556.toNat
def k0_dev29 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_389 : BitVec 32 := 14#32
  let v564 : BitVec 32 := Scalar.addi v2 c14_i32_389
  let c16_i32_390 : BitVec 32 := 16#32
  let c0_i32_391 : BitVec 32 := 0#32
  let v565 : BitVec 1 := Scalar.cmpi .eq c16_i32_390 c0_i32_391
  let c1_i32_392 : BitVec 32 := 1#32
  let v566 : BitVec 32 := Scalar.select v565 c1_i32_392 c16_i32_390
  let v567 : BitVec 32 := Scalar.remsi v564 v566
  let c0_i32_394 : BitVec 32 := 0#32
  let v569 : BitVec 1 := Scalar.cmpi .slt v567 c0_i32_394
  let c0_i32_395 : BitVec 32 := 0#32
  let v570 : BitVec 1 := Scalar.cmpi .slt v566 c0_i32_395
  let v571 : BitVec 1 := Scalar.xori v569 v570
  let c0_i32_393 : BitVec 32 := 0#32
  let v568 : BitVec 1 := Scalar.cmpi .ne v567 c0_i32_393
  let v572 : BitVec 1 := Scalar.andi v571 v568
  let v573 : BitVec 32 := Scalar.addi v567 v566
  let v574 : BitVec 32 := Scalar.select v572 v573 v567
  let c1_i32_399 : BitVec 32 := 1#32
  let v576 : BitVec 32 := Scalar.muli v574 c1_i32_399
  let v577 : BitVec 32 := Scalar.addi c0_i32_400 v576
  v577.toNat
def k0_dev30 (d0 : Dev nD) : Nat :=
  let c0_i32_415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_404 : BitVec 32 := 15#32
  let v585 : BitVec 32 := Scalar.addi v2 c15_i32_404
  let c16_i32_405 : BitVec 32 := 16#32
  let c0_i32_406 : BitVec 32 := 0#32
  let v586 : BitVec 1 := Scalar.cmpi .eq c16_i32_405 c0_i32_406
  let c1_i32_407 : BitVec 32 := 1#32
  let v587 : BitVec 32 := Scalar.select v586 c1_i32_407 c16_i32_405
  let v588 : BitVec 32 := Scalar.remsi v585 v587
  let c0_i32_409 : BitVec 32 := 0#32
  let v590 : BitVec 1 := Scalar.cmpi .slt v588 c0_i32_409
  let c0_i32_410 : BitVec 32 := 0#32
  let v591 : BitVec 1 := Scalar.cmpi .slt v587 c0_i32_410
  let v592 : BitVec 1 := Scalar.xori v590 v591
  let c0_i32_408 : BitVec 32 := 0#32
  let v589 : BitVec 1 := Scalar.cmpi .ne v588 c0_i32_408
  let v593 : BitVec 1 := Scalar.andi v592 v589
  let v594 : BitVec 32 := Scalar.addi v588 v587
  let v595 : BitVec 32 := Scalar.select v593 v594 v588
  let c1_i32_414 : BitVec 32 := 1#32
  let v597 : BitVec 32 := Scalar.muli v595 c1_i32_414
  let v598 : BitVec 32 := Scalar.addi c0_i32_415 v597
  v598.toNat
def k0_off5 (d0 : Dev nD) (c1_i32_419 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v606 : BitVec 32 := Scalar.subi v2 c1_i32_419
  let c16_i32_420 : BitVec 32 := 16#32
  let c0_i32_421 : BitVec 32 := 0#32
  let v607 : BitVec 1 := Scalar.cmpi .eq c16_i32_420 c0_i32_421
  let c1_i32_422 : BitVec 32 := 1#32
  let v608 : BitVec 32 := Scalar.select v607 c1_i32_422 c16_i32_420
  let v609 : BitVec 32 := Scalar.remsi v606 v608
  let c0_i32_424 : BitVec 32 := 0#32
  let v611 : BitVec 1 := Scalar.cmpi .slt v609 c0_i32_424
  let c0_i32_425 : BitVec 32 := 0#32
  let v612 : BitVec 1 := Scalar.cmpi .slt v608 c0_i32_425
  let v613 : BitVec 1 := Scalar.xori v611 v612
  let c0_i32_423 : BitVec 32 := 0#32
  let v610 : BitVec 1 := Scalar.cmpi .ne v609 c0_i32_423
  let v614 : BitVec 1 := Scalar.andi v613 v610
  let v615 : BitVec 32 := Scalar.addi v609 v608
  let v616 : BitVec 32 := Scalar.select v614 v615 v609
  let c64_i32_426 : BitVec 32 := 64#32
  let v617 : BitVec 32 := Scalar.muli v616 c64_i32_426
  let c0_i32_432 : BitVec 32 := 0#32
  ![v617.toNat, 0]
abbrev stage0_0 : Fin 1 → Memref sig .tc .vmem S1024x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
/- The kernel body as a sequence of six loops. The printed body is a straight line of some hundred and forty
   operations; here it is written once more as loops over the fifteen peers and the sixteen column blocks, and the two
   are shown equal, so that everything after it is argued once for each loop. -/
module

public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Exchange

open Cert.KernelIdeal.Gen
open Idealize.ShloMosaic Idealize.ShloMosaic.TcCoe
open Idealize.SL Idealize.SL.Sem

variable {F : FTy → Type} [FloatOps F]

/-- A program of the kernel's TensorCore. -/
abbrev TcProg (F : FTy → Type) [FloatOps F] := Prog (TpuEff nD τ sig (Elt F) Λ₀ .tc) PUnit

/-- The programs `f 0, …, f (n - 1)`, one after the other. -/
def seq : (n : ℕ) → (Fin n → TcProg F) → TcProg F
  | 0, _ => .ret ⟨⟩
  | n + 1, f => f 0 >>= fun _ => seq n fun i => f i.succ

/-! ## Where the column blocks lie -/

/-- Column block `j` of the product lies inside it. -/
theorem yBlk_inb : ∀ (j : Fin 16) a, (![0, 64 * j.val] : Fin 2 → Nat) a + S64x64.size a ≤ S64x1024.size a := by decide

/-- Slot `j` of the send buffer lies inside it. -/
theorem slot_inb : ∀ (j : Fin 16) a, (![j.val, 0, 0] : Fin 3 → Nat) a + S1x64x64.size a ≤ S16x64x64.size a := by decide

/-- A slot of the send buffer is made of packed rows. -/
theorem slot_packed : ∀ j : Fin 16,
    (Rect.unit (s := S16x64x64) ![j.val, 0, 0] S1x64x64.size (slot_inb j)).PackedRows (EltTy.packing .bf16) := by decide +kernel

/-- Semaphore `r` of fifteen is one of the fifteen. -/
theorem sem_inb : ∀ (r : Fin 15) a, (![r.val] : Fin 1 → Nat) a + S1.size a ≤ S15.size a := by decide

/-- Semaphore `r` of an array of fifteen. -/
abbrev semAt (s : DmaSems sig S15) (r : Fin 15) : DmaSems sig S_ :=
  (s.slice (Rect.unit (s := S15) ![r.val] S1.size (sem_inb r))).squeeze S_ squeezes_S1_S_

/-- The barrier semaphore. -/
abbrev barSems : Sems sig S_ := SemArray.scalar (sig.barrier 0 rfl)

/-- The device the `r`-th signal goes to, as the kernel computes it. -/
def sigDev (d0 : Dev nD) : Fin 15 → Dev nD :=
  ![⟨k0_dev1 d0, k0_dev1_lt d0⟩, ⟨k0_dev2 d0, k0_dev2_lt d0⟩, ⟨k0_dev3 d0, k0_dev3_lt d0⟩, ⟨k0_dev4 d0, k0_dev4_lt d0⟩, ⟨k0_dev5 d0, k0_dev5_lt d0⟩, ⟨k0_dev6 d0, k0_dev6_lt d0⟩, ⟨k0_dev7 d0, k0_dev7_lt d0⟩, ⟨k0_dev8 d0, k0_dev8_lt d0⟩, ⟨k0_dev9 d0, k0_dev9_lt d0⟩, ⟨k0_dev10 d0, k0_dev10_lt d0⟩, ⟨k0_dev11 d0, k0_dev11_lt d0⟩, ⟨k0_dev12 d0, k0_dev12_lt d0⟩, ⟨k0_dev13 d0, k0_dev13_lt d0⟩, ⟨k0_dev14 d0, k0_dev14_lt d0⟩, ⟨k0_dev15 d0, k0_dev15_lt d0⟩]

/-- The device the `r`-th copy goes to, as the kernel computes it. -/
def sendDev (d0 : Dev nD) : Fin 15 → Dev nD :=
  ![⟨k0_dev16 d0, k0_dev16_lt d0⟩, ⟨k0_dev17 d0, k0_dev17_lt d0⟩, ⟨k0_dev18 d0, k0_dev18_lt d0⟩, ⟨k0_dev19 d0, k0_dev19_lt d0⟩, ⟨k0_dev20 d0, k0_dev20_lt d0⟩, ⟨k0_dev21 d0, k0_dev21_lt d0⟩, ⟨k0_dev22 d0, k0_dev22_lt d0⟩, ⟨k0_dev23 d0, k0_dev23_lt d0⟩, ⟨k0_dev24 d0, k0_dev24_lt d0⟩, ⟨k0_dev25 d0, k0_dev25_lt d0⟩, ⟨k0_dev26 d0, k0_dev26_lt d0⟩, ⟨k0_dev27 d0, k0_dev27_lt d0⟩, ⟨k0_dev28 d0, k0_dev28_lt d0⟩, ⟨k0_dev29 d0, k0_dev29_lt d0⟩, ⟨k0_dev30 d0, k0_dev30_lt d0⟩]

section stages

variable (arg0 : Memref sig .tc .hbm S64x1024 .f32) (harg0 : arg0.IsWhole) (arg1 : Memref sig .tc .hbm S1024x1024 .f32) (harg1 : arg1.IsWhole)
  (arg2 : Memref sig .tc .vmem S1024x64 .bf16) (harg2 : arg2.IsWhole) (arg3 : Memref sig .tc .vmem S64x1024 .f32) (harg3 : arg3.IsWhole)
  (arg4 : Memref sig .tc .vmem S1024x1024 .f32) (harg4 : arg4.IsWhole) (arg5 : Memref sig .tc .vmem S64x1024 .f32) (harg5 : arg5.IsWhole)
  (arg6 : Memref sig .tc .vmem S16x64x64 .bf16) (harg6 : arg6.IsWhole) (arg7 arg8 : DmaSems sig S_) (arg9 arg10 : DmaSems sig S15)

/-- Tell peer `r` that this device has entered the kernel. -/
def sigStep (d0 : Dev nD) (r : Fin 15) : TcProg F := semSignalWord (sigDev d0 r) barSems.sem 1#32

/-- The operands fetched, multiplied, and their product stored. -/
def fetchMul : TcProg F := do
  Prog.lift (.enqueueDma arg0 (.here arg3) (.dma arg7.sem) harg0.wordExact harg3.wordExact ⟨Or.inl rfl, trivial⟩)
  Prog.lift (.enqueueDma arg1 (.here arg4) (.dma arg8.sem) harg1.wordExact harg4.wordExact ⟨Or.inl rfl, trivial⟩)
  Prog.lift (.waitDma2 arg7.sem arg0 arg3 harg0.wordExact harg3.wordExact)
  Prog.lift (.waitDma2 arg8.sem arg1 arg4 harg1.wordExact harg4.wordExact)
  let v ← Prog.lift (.load arg3 (Rect.unit (s := S64x1024) ![0, 0] S64x1024.size inb_S64x1024_S64x1024_0_0).toLoadRect (View.loadsAt_vmem h_S64x1024))
  let w ← Prog.lift (.load arg4 (Rect.unit (s := S1024x1024) ![0, 0] S1024x1024.size inb_S1024x1024_S1024x1024_0_0).toLoadRect (View.loadsAt_vmem h_S1024x1024))
  let _ ← Prog.lift (.load arg5 (Rect.unit (s := S64x1024) ![0, 0] S64x1024.size inb_S64x1024_S64x1024_0_0).toLoadRect (View.loadsAt_vmem h_S64x1024))
  Prog.lift (.store arg5 (Rect.unit (s := S64x1024) ![0, 0] S64x1024.size inb_S64x1024_S64x1024_0_0) (k0_pay1 v w) Finset.univ (View.stores_vmem_bits_univ h_S64x1024 rfl) (.inl rfl))

/-- Column block `j` of the product rounded into slot `j` of the send buffer. -/
def fillStep (j : Fin 16) : TcProg F := do
  let v ← Prog.lift (.load arg5 (Rect.unit (s := S64x1024) ![0, 64 * j.val] S64x64.size (yBlk_inb j)).toLoadRect (View.loadsAt_vmem h_S64x64))
  let _ ← Prog.lift (.load arg6 (Rect.unit (s := S16x64x64) ![j.val, 0, 0] S1x64x64.size (slot_inb j)).toLoadRect (View.loadsAt_vmem h_S1x64x64))
  Prog.lift (.store arg6 (Rect.unit (s := S16x64x64) ![j.val, 0, 0] S1x64x64.size (slot_inb j)) (k0_pay2 v) Finset.univ
    (View.stores_vmem h_S1x64x64 (harg6.storeExact_slice rfl _ (slot_packed j)) (fun _ => rfl)) (.inl rfl))

/-- The device's own block copied to its own rows of the result. -/
def ownStep (d0 : Dev nD) : TcProg F := do
  let v ← Prog.lift (.load arg6 (Rect.unit (s := S16x64x64) (k0_off1 d0) S1x64x64.size (k0_off1_inb d0)).toLoadRect (View.loadsAt_vmem h_S1x64x64))
  let _ ← Prog.lift (.load arg2 (Rect.unit (s := S1024x64) (k0_off2 d0) S64x64.size (k0_off2_inb d0)).toLoadRect (View.loadsAt_vmem h_S64x64))
  Prog.lift (.store arg2 (Rect.unit (s := S1024x64) (k0_off2 d0) S64x64.size (k0_off2_inb d0)) (k0_pay19 v) Finset.univ
    (View.stores_vmem h_S64x64 (harg2.storeExact_slice rfl _ (k0_off2_packedbf16 d0)) (fun _ => rfl)) (.inl rfl))

/-- The slot of the send buffer that goes to peer `r`. -/
abbrev slotOf (d0 : Dev nD) (r : Fin 15) : Memref sig .tc .vmem S64x64 .bf16 :=
  (arg6.slice (Rect.unit (s := S16x64x64) (k0_off4 d0 (BitVec.ofNat 32 (1 + r.val))) S1x64x64.size (k0_off4_inb d0 r)) (fun _ => rfl)).squeeze
    S64x64 squeezes_S1x64x64_S64x64

/-- The device's own rows of a result buffer. -/
abbrev rowsOf (d0 : Dev nD) : Memref sig .tc .vmem S64x64 .bf16 :=
  arg2.slice (Rect.unit (s := S1024x64) (k0_off3 d0) S64x64.size (k0_off3_inb d0)) (fun _ => rfl)

/-- Send peer `r` its block. -/
def sendStep (d0 : Dev nD) (r : Fin 15) : TcProg F :=
  Prog.lift (.enqueueDma (slotOf arg6 d0 r) (.remote (Dev.tc (sendDev d0 r)) (rowsOf arg2 d0) (.dma (semAt arg9 r).sem)) (.dma (semAt arg10 r).sem)
    ((harg6.wordExact_slice rfl _ (k0_off4_wordsbf16 d0 r)).reshape _ _) (harg2.wordExact_slice rfl _ (k0_off3_wordsbf16 d0))
    ⟨⟨rfl, Or.inl rfl⟩, trivial⟩)

/-- Wait for the block the device `r + 1` places back sends here. -/
def recvStep (d0 : Dev nD) (r : Fin 15) : TcProg F :=
  Prog.lift (.waitDma2 (semAt arg10 r).sem
    ((arg6.slice (Rect.unit (s := S16x64x64) ![0, 0, 0] S1x64x64.size inb_S16x64x64_S1x64x64_0_0_0) (fun _ => rfl)).squeeze S64x64 squeezes_S1x64x64_S64x64)
    (arg2.slice (Rect.unit (s := S1024x64) (k0_off5 d0 (BitVec.ofNat 32 (1 + r.val))) S64x64.size (k0_off5_inb d0 r)) (fun _ => rfl))
    ((harg6.wordExact_slice rfl _ wordsbf16_S16x64x64_S1x64x64_0_0_0).reshape _ _) (harg2.wordExact_slice rfl _ (k0_off5_wordsbf16 d0 r)))

/-- Wait for the send to peer `r` to be done. -/
def doneStep (d0 : Dev nD) (r : Fin 15) : TcProg F :=
  Prog.lift (.waitDma2 (semAt arg9 r).sem (rowsOf arg2 d0) (slotOf arg6 d0 r)
    (harg2.wordExact_slice rfl _ (k0_off3_wordsbf16 d0)) ((harg6.wordExact_slice rfl _ (k0_off4_wordsbf16 d0 r)).reshape _ _))

/-- The whole body as its loops. -/
def prog : TcProg F := do
  let d0 ← Prog.lift .deviceId
  seq 15 (sigStep d0)
  fetchMul arg0 harg0 arg1 harg1 arg3 harg3 arg4 harg4 arg5 arg7 arg8
  seq 16 (fillStep arg5 arg6 harg6)
  ownStep arg2 harg2 arg6 d0
  semWaitWord barSems.sem 15#32
  seq 15 (sendStep arg2 harg2 arg6 harg6 arg9 arg10 d0)
  seq 15 (recvStep arg2 harg2 arg6 harg6 arg10 d0)
  seq 15 (doneStep arg2 harg2 arg6 harg6 arg9 d0)

set_option maxRecDepth 65536 in
set_option maxHeartbeats 4000000 in
/-- The printed body is its loops. -/
theorem body_eq :
    cc0_body (F := F) arg0 harg0 arg1 harg1 arg2 harg2 arg3 harg3 arg4 harg4 arg5 harg5 arg6 harg6 arg7 arg8 arg9 arg10
      = prog arg0 harg0 arg1 harg1 arg2 harg2 arg3 harg3 arg4 harg4 arg5 arg6 harg6 arg7 arg8 arg9 arg10 := by
  rfl

end stages

end Cert.KernelIdeal.Exchange

end
-- ==== Proof.Contents.lean ====
/- What the buffers hold: the blocks of the result and of the send buffer as regions, the values the kernel computes, and
   what each of its stores and copies leaves behind. -/
module

public import proofs.«01_k».proof.Proof.Program
public import Idealize.ShloMosaic.Lib.ValueIdx
public import Idealize.ShloMosaic.Lib.ViewIndex
public import Idealize.ShloMosaic.Lib.Pipeline.Value

@[expose] public section

noncomputable section

namespace Cert.KernelIdeal.Exchange

open Cert.KernelIdeal.Gen
open Idealize.ShloMosaic Idealize.ShloMosaic.TcCoe
open Idealize.ShloMosaic.ValueIdx Idealize.SL Idealize.SL.Sem

variable {F : FTy → Type} [FloatOps F]

/-! ## The buffers -/

/-- This device's rows of `x`, where they lie at the start. -/
abbrev xH : Memref sig .tc .hbm S64x1024 .f32 := Memref.whole main_arg0
/-- The weights, where they lie at the start. -/
abbrev wH : Memref sig .tc .hbm S1024x1024 .f32 := Memref.whole main_arg1
/-- The result block. -/
abbrev oM : Memref sig .tc .vmem S1024x64 .bf16 := Memref.whole cc0_stg0_0
/-- The fetched rows of `x`. -/
abbrev xM : Memref sig .tc .vmem S64x1024 .f32 := Memref.whole cc0_scratch0
/-- The fetched weights. -/
abbrev wM : Memref sig .tc .vmem S1024x1024 .f32 := Memref.whole cc0_scratch1
/-- The product. -/
abbrev yM : Memref sig .tc .vmem S64x1024 .f32 := Memref.whole cc0_scratch2
/-- The send buffer, one slot for each device. -/
abbrev sM : Memref sig .tc .vmem S16x64x64 .bf16 := Memref.whole cc0_scratch3

/-! ## Slots and row blocks -/

/-- Row block `t` of the result lies inside it. -/
theorem row_inb : ∀ (t : Fin 16) a, (![64 * t.val, 0] : Fin 2 → Nat) a + S64x64.size a ≤ S1024x64.size a := by decide

/-- The rectangle of column block `j` of the product. -/
abbrev yR (j : Fin 16) : Rect S64x1024 := Rect.unit (s := S64x1024) ![0, 64 * j.val] S64x64.size (yBlk_inb j)
/-- The rectangle of slot `j` of the send buffer. -/
abbrev slotR (j : Fin 16) : Rect S16x64x64 := Rect.unit (s := S16x64x64) ![j.val, 0, 0] S1x64x64.size (slot_inb j)
/-- The rectangle of row block `t` of the result. -/
abbrev rowR (t : Fin 16) : Rect S1024x64 := Rect.unit (s := S1024x64) ![64 * t.val, 0] S64x64.size (row_inb t)

/-- Slot `j` of the send buffer, as a square block. -/
abbrev slotM (j : Fin 16) : Memref sig .tc .vmem S64x64 .bf16 :=
  (sM.slice (slotR j) (fun _ => rfl)).squeeze S64x64 squeezes_S1x64x64_S64x64
/-- Row block `t` of the result. -/
abbrev rowM (t : Fin 16) : Memref sig .tc .vmem S64x64 .bf16 := oM.slice (rowR t) (fun _ => rfl)

theorem slotR_emb (j : Fin 16) (x : S1x64x64.Idx) : (slotR j).emb x = ix3 j (x 1) (x 2) := by
  have h0 : (x 0).val < 1 := (x 0).isLt
  refine Shape.idx3_ext ?_ ?_ ?_
  · rw [Rect.emb_apply]; show j.val + 1 * (x 0).val = j.val; omega
  · rw [Rect.emb_apply]; show 0 + 1 * (x 1).val = (x 1).val; omega
  · rw [Rect.emb_apply]; show 0 + 1 * (x 2).val = (x 2).val; omega

theorem slotM_emb (j : Fin 16) (x : S64x64.Idx) : (slotM j).view.emb x = ix3 j (x 0) (x 1) := by
  have h : (slotM j).view.emb x = (slotR j).emb (Shape.reshapeEquiv (s := S1x64x64) squeezes_S1x64x64_S64x64.numel_eq x) := rfl
  rw [h, slotR_emb, Shape.reshapeEquiv_cons_one (d := ![64, 64])]
  rfl

/-- Row `64 t + a` of the result. -/
def rowIx (t : Fin 16) (a : Fin 64) : Fin 1024 := ⟨64 * t.val + a.val, by omega⟩

theorem rowR_emb (t : Fin 16) (x : S64x64.Idx) : (rowR t).emb x = ix2 (rowIx t (x 0)) (x 1) := by
  refine funext fun a => ?_
  match a with
  | ⟨0, _⟩ => refine Fin.ext ?_; rw [Rect.emb_apply]; show 64 * t.val + 1 * (x 0).val = 64 * t.val + (x 0).val; omega
  | ⟨1, _⟩ => refine Fin.ext ?_; rw [Rect.emb_apply]; show 0 + 1 * (x 1).val = (x 1).val; omega

theorem rowM_emb (t : Fin 16) (x : S64x64.Idx) : (rowM t).view.emb x = ix2 (rowIx t (x 0)) (x 1) := rowR_emb t x

/-- The elements of slot `j`. -/
abbrev slotSet (j : Fin 16) : Finset S16x64x64.Idx := (slotM j).view.set
/-- The elements of row block `t`. -/
abbrev rowSet (t : Fin 16) : Finset S1024x64.Idx := (rowM t).view.set

theorem mem_slotSet (j : Fin 16) (i : S16x64x64.Idx) : i ∈ slotSet j ↔ i 0 = j := by
  constructor
  · intro h
    obtain ⟨x, -, rfl⟩ := Finset.mem_map.mp h
    exact congrFun (slotM_emb j x) 0
  · intro h
    refine Finset.mem_map.mpr ⟨ix2 (i 1) (i 2), Finset.mem_univ _, ?_⟩
    rw [slotM_emb, ← h]
    exact (eq_ix3 i).symm

theorem mem_rowSet (t : Fin 16) (i : S1024x64.Idx) : i ∈ rowSet t ↔ (i 0).val / 64 = t.val := by
  constructor
  · intro h
    obtain ⟨x, -, rfl⟩ := Finset.mem_map.mp h
    rw [rowM_emb]
    show (64 * t.val + (x 0).val) / 64 = t.val
    have : (x 0).val < 64 := (x 0).isLt
    omega
  · intro h
    have h1 : (i 0).val < 1024 := (i 0).isLt
    refine Finset.mem_map.mpr ⟨ix2 ⟨(i 0).val % 64, by omega⟩ (i 1), Finset.mem_univ _, ?_⟩
    rw [rowM_emb]
    refine funext fun a => ?_
    match a with
    | ⟨0, _⟩ => refine Fin.ext ?_; show 64 * t.val + (i 0).val % 64 = (i 0).val; omega
    | ⟨1, _⟩ => rfl

theorem slotSet_disjoint (j j' : Fin 16) (h : j ≠ j') : Disjoint (slotSet j) (slotSet j') :=
  Finset.disjoint_left.mpr fun i hi hi' => h (((mem_slotSet j i).mp hi).symm.trans ((mem_slotSet j' i).mp hi'))

theorem rowSet_disjoint (t t' : Fin 16) (h : t ≠ t') : Disjoint (rowSet t) (rowSet t') :=
  Finset.disjoint_left.mpr fun i hi hi' => h (Fin.ext (((mem_rowSet t i).mp hi).symm.trans ((mem_rowSet t' i).mp hi')))

theorem slotSet_cover : (Finset.univ.biUnion slotSet : Finset S16x64x64.Idx) = Finset.univ :=
  Finset.eq_univ_iff_forall.mpr fun i => Finset.mem_biUnion.mpr ⟨i 0, Finset.mem_univ _, (mem_slotSet _ i).mpr rfl⟩

theorem rowSet_cover : (Finset.univ.biUnion rowSet : Finset S1024x64.Idx) = Finset.univ :=
  Finset.eq_univ_iff_forall.mpr fun i => Finset.mem_biUnion.mpr
    ⟨⟨(i 0).val / 64, by have h1 : (i 0).val < 1024 := (i 0).isLt; omega⟩, Finset.mem_univ _, (mem_rowSet _ i).mpr rfl⟩

/-! ## The values -/

variable (m : (ℓ : Loc nD τ sig) → Buf (Elt F) ℓ)

/-- Device `c`'s rows of `x`. -/
def xv (c : Dev nD) : Vec F S64x1024 .f32 := m ((c : Thread nD τ).loc main_arg0)
/-- Device `c`'s weights. -/
def wv (c : Dev nD) : Vec F S1024x1024 .f32 := m ((c : Thread nD τ).loc main_arg1)
/-- Device `c`'s product. -/
def yv (c : Dev nD) : Vec F S64x1024 .f32 := k0_pay1 (xv m c) (wv m c)
/-- Column block `j` of device `c`'s product, rounded. -/
def blk (c : Dev nD) (j : Fin 16) : Vec F S64x64 .bf16 := k0_pay10 (yM.view.readAt (Elt F) (yR j).toLoadRect (yv m c))
/-- Device `c`'s send buffer once filled: slot `j` holds column block `j`. -/
def sv (c : Dev nD) : Vec F S16x64x64 .bf16 := fun i => blk m c (i 0) (ix2 (i 1) (i 2))
/-- The row block row `r` of a result lies in. -/
def rowBlk (r : Fin 1024) : Dev nD := ⟨r.val / 64, by show r.val / 64 < 16; omega⟩
/-- Where row `r` of a result lies in its row block. -/
def rowIn (r : Fin 1024) : Fin 64 := ⟨r.val % 64, by omega⟩
/-- Device `t`'s result: row block `s` holds column block `t` of device `s`'s product. -/
def ov (t : Dev nD) : Vec F S1024x64 .bf16 := fun i => blk m (rowBlk (i 0)) t (ix2 (rowIn (i 0)) (i 1))

theorem rowBlk_rowIx (s : Dev nD) (a : Fin 64) : rowBlk (rowIx s a) = s :=
  Fin.ext (by unfold rowBlk rowIx; dsimp only; omega)
theorem rowIn_rowIx (s : Dev nD) (a : Fin 64) : rowIn (rowIx s a) = a :=
  Fin.ext (by unfold rowIn rowIx; dsimp only; omega)

theorem ov_rowIx (t s : Dev nD) (a b : Fin 64) : ov m t (ix2 (rowIx s a) b) = blk m s t (ix2 a b) := by
  have e : ov m t (ix2 (rowIx s a) b) = blk m (rowBlk (rowIx s a)) t (ix2 (rowIn (rowIx s a)) b) := rfl
  rw [e, rowBlk_rowIx, rowIn_rowIx]

/-! ## What the stores and copies leave -/

theorem slotM_read (j : Fin 16) (f : Vec F S16x64x64 .bf16) (x : S64x64.Idx) :
    (slotM j).view.read (Elt F) f x = f (ix3 j (x 0) (x 1)) :=
  congrArg f (slotM_emb j x)

/-- What a write through a view leaves at the element under an index. -/
theorem write_hit {sp : Space} {s : Shape} {e : EltTy} (v : View sig .tc sp s e) (f : v.ty.Contents (Elt F)) (w : s.Idx → Elt F e) {x : s.Idx} {i : v.ty.Idx}
    (h : v.emb x = i) : v.write (Elt F) f w Finset.univ i = _root_.cast (congrArg (Elt F) v.elt_eq.symm) (w x) := by
  subst h; exact View.write_emb_of_mem f w (Finset.mem_univ x)

/-- A store of column block `j` into slot `j` of a send buffer right below `j` makes it right below `j + 1`. -/
theorem fill_agree (c : Dev nD) (j : Fin 16) (f : Vec F S16x64x64 .bf16) (hf : ∀ i : S16x64x64.Idx, (i 0).val < j.val → f i = sv m c i)
    (i : S16x64x64.Idx) (hi : (i 0).val < j.val + 1) :
    (sM.access (slotR j) : View sig .tc _ _ _).write (Elt F) f (k0_pay2 (yM.view.readAt (Elt F) (yR j).toLoadRect (yv m c))) Finset.univ i = sv m c i := by
  by_cases h : i 0 = j
  · have e : (sM.access (slotR j) : View sig .tc _ _ _).emb (ix3 (0 : Fin 1) (i 1) (i 2)) = i := by
      refine (slotR_emb j (ix3 (0 : Fin 1) (i 1) (i 2))).trans ?_
      rw [← h]; exact (eq_ix3 i).symm
    refine (write_hit (F := F) (sM.access (slotR j) : View sig .tc _ _ _) f _ e).trans ?_
    have e3 : sv m c i = blk m c j (ix2 (i 1) (i 2)) := by rw [← h]; rfl
    refine Eq.trans ?_ e3.symm
    exact (shapeCast_addUnit_apply ![64, 64] _ shapeCasts_S64x64_S1x64x64 _).trans
      (congrArg (blk m c j) (funext fun a => by match a with | ⟨0, _⟩ => rfl | ⟨1, _⟩ => rfl))
  · have hlt : (i 0).val < j.val := by have : (i 0).val ≠ j.val := fun e => h (Fin.ext e); omega
    refine Eq.trans (View.write_of_not_mem (Val := Elt F) (v := (sM.access (slotR j) : View sig .tc _ _ _)) f _ Finset.univ (i := i) ?_) (hf i hlt)
    intro hm
    obtain ⟨x, -, hx⟩ := Finset.mem_map.mp hm
    have e : ix3 j (x 1) (x 2) = i := (slotR_emb j x).symm.trans hx
    exact h (by rw [← e])

/-- Writing block `t` of device `s` into row block `s` of any result block makes that row block right for device `t`. -/
theorem row_agree (s t : Dev nD) (f : Vec F S1024x64 .bf16) (w : Vec F S64x64 .bf16) (hw : ∀ x, w x = blk m s t x)
    (i : S1024x64.Idx) (hi : i ∈ rowSet s) : (rowM s).view.write (Elt F) f w Finset.univ i = ov m t i := by
  obtain ⟨x, -, hx⟩ := Finset.mem_map.mp hi
  refine (write_hit (F := F) (rowM s).view f w hx).trans ?_
  have e : ov m t i = blk m s t (ix2 (x 0) (x 1)) :=
    (congrArg (ov m t) (hx.symm.trans (rowM_emb s x))).trans (ov_rowIx m t s (x 0) (x 1))
  exact ((hw x).trans (congrArg (blk m s t) (eq_ix2 x))).trans e.symm

/-- The copy of slot `t` of device `s` into row block `s` of device `t`. -/
theorem send_agree (s t : Dev nD) (f : Vec F S1024x64 .bf16) (i : S1024x64.Idx) (hi : i ∈ rowSet s) :
    (rowM s).view.write (Elt F) f ((slotM t).view.read (Elt F) (sv m s)) Finset.univ i = ov m t i :=
  row_agree m s t f _ (fun x => (slotM_read t (sv m s) x).trans (congrArg (blk m s t) (eq_ix2 x).symm)) i hi

/-- The device's own block, loaded from its slot and stored to its own row block. -/
theorem own_agree (c : Dev nD) (f : Vec F S1024x64 .bf16) (i : S1024x64.Idx) (hi : i ∈ rowSet c) :
    (oM.access (rowR c) : View sig .tc _ _ _).write (Elt F) f
      (k0_pay19 (sM.view.readAt (Elt F) (slotR c).toLoadRect (sv m c))) Finset.univ i = ov m c i := by
  refine row_agree m c c f _ (fun x => ?_) i hi
  have e : k0_pay19 (sM.view.readAt (Elt F) (slotR c).toLoadRect (sv m c)) x
      = (sM.view.readAt (Elt F) (slotR c).toLoadRect (sv m c)) (Fin.cons ⟨0, Nat.one_pos⟩ x : S1x64x64.Idx) :=
    shapeCast_dropUnit_apply ![64, 64] (sM.view.readAt (Elt F) (slotR c).toLoadRect (sv m c)) shapeCasts_S1x64x64_S64x64 x
  refine e.trans ?_
  exact (congrArg (sv m c) (slotR_emb c _)).trans (congrArg (blk m c c) (eq_ix2 x).symm)

end Cert.KernelIdeal.Exchange

end
-- ==== Proof.Protocol.lean ====
/- The protocol of the exchange: who signals whom, what each semaphore hands over when it is waited for, what every device
   still owes at each stage, and the rule that runs a loop by an invariant. -/
module

public import proofs.«01_k».proof.Proof.Contents
public import Idealize.ShloMosaic.Lib.Ring
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

/-- The rounds' ghost state, its duties named by devices. -/
abbrev UB : Type := URounds (GSem nD τ sig) (Dev nD)
/-- The ghost state of the launch and of the rounds. -/
abbrev UU : Type := UR sig nD τ × UB

local notation "𝕄" => MT nD τ sig Unit (Elt F) ℕ UU ℕ

/-- Where the launch's ghost state lies. -/
abbrev EP : Emb (UR sig nD τ) (MT nD τ sig Unit (Elt F) ℕ UU ℕ) := embL
/-- Where the rounds' ghost state lies. -/
abbrev ER : Emb UB (MT nD τ sig Unit (Elt F) ℕ UU ℕ) := embR

/-- No loop variants are needed. -/
abbrev 𝒱₀ : Variants := Variants.none

/-- Device `c`'s TensorCore runs `p` to a state where `Q` holds. -/
abbrev runs (c : Dev nD) (p : TcProg F) (Q : PUnit → sProp 𝕄) : sProp 𝕄 :=
  wp frame (wpE (defs₀ (F := F)) 𝒱₀ (c : Thread nD τ) none) Set.univ p Q

/-- A loop keeps an invariant each of its trips keeps. -/
theorem runs_seq (c : Dev nD) : ∀ (n : ℕ) (f : Fin n → TcProg F) (I : ℕ → sProp 𝕄),
    (∀ (i : Fin n) (Q : PUnit → sProp 𝕄), iprop(I i.val ∗ (I (i.val + 1) -∗ Q ⟨⟩)) ⊢ runs c (f i) Q) →
    ∀ Q : PUnit → sProp 𝕄, iprop(I 0 ∗ (I n -∗ Q ⟨⟩)) ⊢ runs c (seq n f) Q
  | 0, f, I, _, Q => by
    show iprop(I 0 ∗ (I 0 -∗ Q ⟨⟩)) ⊢ wp frame (wpE (defs₀ (F := F)) 𝒱₀ (c : Thread nD τ) none) Set.univ (Prog.ret PUnit.unit) Q
    rw [wp_ret]
    iintro ⟨HI, HQ⟩
    imodintro
    iapply HQ; iexact HI
  | n + 1, f, I, h, Q => by
    show iprop(I 0 ∗ (I (n + 1) -∗ Q ⟨⟩)) ⊢ wp frame (wpE (defs₀ (F := F)) 𝒱₀ (c : Thread nD τ) none) Set.univ (f 0 >>= fun _ => seq n fun i => f i.succ) Q
    rw [wp_bind]
    iintro ⟨HI, HQ⟩
    iapply (h 0 fun a => wp frame (wpE (defs₀ (F := F)) 𝒱₀ (c : Thread nD τ) none) Set.univ (seq n fun i => f i.succ) Q)
    isplitl [HI]; · iapply (Entails.of_eq (show I 0 = I (0 : Fin (n + 1)).val from rfl)); iexact HI
    iintro HI
    ihave HI := (Entails.of_eq (show I ((0 : Fin (n + 1)).val + 1) = I (0 + 1) from rfl)) $$ HI
    iapply (runs_seq c n (fun i => f i.succ) (fun k => I (k + 1)) (fun i Q => h i.succ Q) Q)
    isplitl [HI]; · iexact HI
    iexact HQ

/-! ## The peers -/

/-- The device `i + 1` places on from `c`. -/
def peer (c : Dev nD) (i : Fin 15) : Dev nD := ⟨(c.val + (i.val + 1)) % 16, Nat.mod_lt _ (by decide)⟩
/-- The device `i + 1` places back from `c`. -/
def src (c : Dev nD) (i : Fin 15) : Dev nD := ⟨(c.val + (15 - i.val)) % 16, Nat.mod_lt _ (by decide)⟩

theorem src_peer : ∀ (c : Dev nD) (i : Fin 15), src (peer c i) i = c := by decide +kernel
theorem peer_src : ∀ (c : Dev nD) (i : Fin 15), peer (src c i) i = c := by decide +kernel
theorem peer_ne : ∀ (c : Dev nD) (i : Fin 15), peer c i ≠ c := by decide +kernel
theorem peer_inj : ∀ (c : Dev nD) (i j : Fin 15), peer c i = peer c j → i = j := by decide +kernel
theorem src_inj : ∀ (c : Dev nD) (i j : Fin 15), src c i = src c j → i = j := by decide +kernel
theorem peers_eq : ∀ c : Dev nD, Finset.univ.map ⟨peer c, fun i j => peer_inj c i j⟩ = Finset.univ.erase c := by decide +kernel
theorem srcs_eq : ∀ c : Dev nD, Finset.univ.map ⟨src c, fun i j => src_inj c i j⟩ = Finset.univ.erase c := by decide +kernel

/-- Going `i + 1` places on. -/
def around (i : Fin 15) : Dev nD ≃ Dev nD := ⟨fun c => peer c i, fun c => src c i, fun c => src_peer c i, fun c => peer_src c i⟩

/-- What is held for every other device, taken by how far on it is; -/
theorem bigSep_peers (c : Dev nD) (Φ : Dev nD → sProp 𝕄) : bigSep (Finset.univ.erase c) Φ = bigSep Finset.univ fun i => Φ (peer c i) := by
  rw [← peers_eq c, bigSep_map]; rfl
/-- or by how far back. -/
theorem bigSep_srcs (c : Dev nD) (Φ : Dev nD → sProp 𝕄) : bigSep (Finset.univ.erase c) Φ = bigSep Finset.univ fun i => Φ (src c i) := by
  rw [← srcs_eq c, bigSep_map]; rfl

theorem sigDev_eq : ∀ (c : Dev nD) (i : Fin 15), sigDev c i = peer c i := by decide +kernel
theorem sendDev_eq : ∀ (c : Dev nD) (i : Fin 15), sendDev c i = peer c i := by decide +kernel
theorem off4_eq : ∀ (c : Dev nD) (i : Fin 15), k0_off4 c (BitVec.ofNat 32 (1 + i.val)) = ![(peer c i).val, 0, 0] := by decide +kernel
theorem off5_eq : ∀ (c : Dev nD) (i : Fin 15), k0_off5 c (BitVec.ofNat 32 (1 + i.val)) = ![64 * (src c i).val, 0] := by decide +kernel

/-! ## The semaphores -/

/-- The semaphores of the exchange: the barrier and the two fetches', then the fifteen sends' and the fifteen receives'. -/
abbrev CI : Type := Fin 3 ⊕ (Fin 15 ⊕ Fin 15)

/-- Each of them. -/
def csem : CI → SemLoc sig
  | .inl 0 => .reg barSems.sem
  | .inl 1 => .dma cc0_scratch4.sem
  | .inl 2 => .dma cc0_scratch5.sem
  | .inr (.inl i) => .dma (semAt cc0_scratch6 i).sem
  | .inr (.inr i) => .dma (semAt cc0_scratch7 i).sem

theorem csem_inj : Function.Injective csem := by
  have h : ∀ a b : CI, csem a = csem b → a = b := by decide +kernel
  exact fun a b => h a b

/-- Device `c`'s copy of a semaphore. -/
abbrev cell (c : Dev nD) (k : CI) : GSem nD τ sig := ((c : Thread nD τ), csem k)
/-- The same, of a pair. -/
abbrev kcell (ck : Dev nD × CI) : GSem nD τ sig := cell ck.1 ck.2

theorem kcell_inj : Function.Injective kcell := fun a b h =>
  Prod.ext (congrArg (fun g : GSem nD τ sig => g.1.1) h) (csem_inj (congrArg Prod.snd h))

/-- Which semaphore of the exchange this is, if any. -/
def kindOf (s : SemLoc sig) : Option CI := by
  classical exact if h : ∃ k, csem k = s then some h.choose else none

theorem kindOf_csem (k : CI) : kindOf (csem k) = some k := by
  have h : ∃ k', csem k' = csem k := ⟨k, rfl⟩
  unfold kindOf
  rw [dif_pos h]
  exact congrArg some (csem_inj h.choose_spec)

/-- What the copy of one block raises a semaphore by; -/
abbrev N : ℕ := (rowM 0).view.dmaCredit
/-- what the fetch of the rows of `x` does; -/
abbrev Nx : ℕ := xM.view.dmaCredit
/-- what the fetch of the weights does. -/
abbrev Nw : ℕ := wM.view.dmaCredit

theorem slot_credit (j : Fin 16) : (slotM j).view.dmaCredit = N := rfl
theorem row_credit (t : Fin 16) : (rowM t).view.dmaCredit = N := rfl

/-- What each duty raises its semaphore by. -/
def amt : CI → ℕ
  | .inl 0 => 1
  | .inl 1 => Nx
  | .inl 2 => Nw
  | .inr _ => N

theorem amt_pos (k : CI) : 0 < amt k := by
  match k with
  | .inl 0 => exact Nat.one_pos
  | .inl 1 => exact View.dmaCredit_pos _ (by decide)
  | .inl 2 => exact View.dmaCredit_pos _ (by decide)
  | .inr _ => exact View.dmaCredit_pos _ (by decide)

/-- Who raises each semaphore of device `c`: every other device its barrier; the others are raised once. -/
def who (c : Dev nD) : CI → Finset (Dev nD)
  | .inl 0 => Finset.univ.erase c
  | _ => {0}

/-- How much each is raised by in all. -/
def whole : CI → ℕ
  | .inl 0 => 15
  | k => amt k

/-! ## What the semaphores hand over -/

/-- A whole buffer of device `c`. -/
abbrev held (c : Dev nD) (b : Ref sig .tc) (f : Buf (Elt F) ((c : Thread nD τ).loc b)) : sProp 𝕄 := ((c : Thread nD τ).loc b) ↦{fullShare} f
/-- Elements of device `c`'s result buffer. -/
abbrev outAt (c : Dev nD) (S : Finset S1024x64.Idx) (f : Buf (Elt F) (oM.view.loc (c : Thread nD τ))) : sProp 𝕄 :=
  oM.view.loc (c : Thread nD τ) ↦[S]{fullShare} f
/-- Elements of device `c`'s send buffer. -/
abbrev sendAt (c : Dev nD) (S : Finset S16x64x64.Idx) (f : Buf (Elt F) (sM.view.loc (c : Thread nD τ))) : sProp 𝕄 :=
  sM.view.loc (c : Thread nD τ) ↦[S]{fullShare} f

variable (m : (ℓ : Loc nD τ sig) → Buf (Elt F) ℓ) (ρ : Dev nD → PrngReg)

/-- What a raise by device `d` of a semaphore of device `c` hands `c`: the barrier, `d`'s rows that `c` writes; a fetch, its
    two buffers; a send, its slot back; a receive, the rows written. -/
def pay (c : Dev nD) (k : CI) (d : Dev nD) : sProp 𝕄 :=
  match k with
  | .inl 0 => iprop(∃ f, outAt d (rowSet c) f)
  | .inl 1 => iprop(held c cc0_scratch0 (xv m c) ∗ held c main_arg0 (xv m c))
  | .inl 2 => iprop(held c cc0_scratch1 (wv m c) ∗ held c main_arg1 (wv m c))
  | .inr (.inl i) => sendAt c (slotSet (peer c i)) (sv m c)
  | .inr (.inr i) => outAt c (rowSet (src c i)) (ov m c)

instance pay_storable (c : Dev nD) (k : CI) (d : Dev nD) : BI.Storable (upEmb : UEmb _ 𝕄) (pay (F := F) m c k d) := by
  match k with
  | .inl 0 => unfold pay; infer_instance
  | .inl 1 => unfold pay; infer_instance
  | .inl 2 => unfold pay; infer_instance
  | .inr (.inl i) => unfold pay; infer_instance
  | .inr (.inr i) => unfold pay; infer_instance

/-- The schedule: one round, in which every semaphore of the exchange is raised by those who raise it. -/
def Rd : Rounds.Schedule (GSem nD τ sig) (Dev nD) 𝕄 where
  duties g r := if r = 0 ∧ g.1.2 = .tc then (kindOf g.2).elim ∅ (who g.1.1) else ∅
  unitless _ := False
  amount g _ _ := (kindOf g.2).elim 1 amt
  payload g _ d := (kindOf g.2).elim iprop(emp) fun k => pay m g.1.1 k d
  amount_pos g _ _ _ := by
    cases h : kindOf g.2 with
    | none => exact Nat.one_pos
    | some k => exact amt_pos k

instance Rd_storable (g : GSem nD τ sig) (r : ℕ) (d : Dev nD) : BI.Storable (upEmb : UEmb _ 𝕄) ((Rd (F := F) m).payload g r d) := by
  show BI.Storable upEmb ((kindOf g.2).elim iprop(emp) fun k => pay m g.1.1 k d)
  cases kindOf g.2 with
  | none => show BI.Storable upEmb iprop(emp); infer_instance
  | some k => show BI.Storable upEmb (pay m g.1.1 k d); infer_instance

theorem duties_cell (c : Dev nD) (k : CI) : (Rd (F := F) m).duties (cell c k) 0 = who c k := by
  show (if 0 = 0 ∧ (Dev.tc c : Thread nD τ).2 = .tc then (kindOf (csem k)).elim ∅ (who c) else ∅) = _
  rw [if_pos ⟨rfl, rfl⟩, kindOf_csem]; rfl

theorem duties_later (g : GSem nD τ sig) : ∀ r, 1 ≤ r → (Rd (F := F) m).duties g r = ∅ :=
  fun r hr => if_neg fun h => by have := h.1; omega

theorem amount_cell (c : Dev nD) (k : CI) (d : Dev nD) : (Rd (F := F) m).amount (cell c k) 0 d = amt k := by
  show (kindOf (csem k)).elim 1 amt = _
  rw [kindOf_csem]; rfl

theorem payload_cell (c : Dev nD) (k : CI) (d : Dev nD) : (Rd (F := F) m).payload (cell c k) 0 d = pay m c k d := by
  show (kindOf (csem k)).elim iprop(emp) (fun k => pay m c k d) = _
  rw [kindOf_csem]; rfl

theorem expect_cell (c : Dev nD) (k : CI) : (Rd (F := F) m).expect (cell c k) 0 = whole k := by
  unfold Schedule.expect Schedule.amountOf
  rw [duties_cell, Finset.sum_congr rfl fun d _ => amount_cell m c k d, Finset.sum_const, smul_eq_mul]
  match k with
  | .inl 0 => show (Finset.univ.erase c).card * 1 = 15; rw [Finset.card_erase_of_mem (Finset.mem_univ c), Finset.card_univ, Fintype.card_fin]; rfl
  | .inl 1 => exact Nat.one_mul _
  | .inl 2 => exact Nat.one_mul _
  | .inr _ => exact Nat.one_mul _

/-- What a wait for the whole round hands over. -/
theorem rest_cell (c : Dev nD) (k : CI) :
    bigSep ((Rd (F := F) m).duties (cell c k) 0 \ ∅) (fun d => (Rd (F := F) m).payload (cell c k) 0 d) = bigSep (who c k) fun d => pay m c k d := by
  rw [Finset.sdiff_empty, duties_cell]
  exact bigSep_congr fun d _ => payload_cell m c k d

theorem mem_who_zero (c : Dev nD) (k : CI) (h : k ≠ .inl 0) : (0 : Dev nD) ∈ who c k := by
  match k, h with
  | .inl 1, _ => exact Finset.mem_singleton_self _
  | .inl 2, _ => exact Finset.mem_singleton_self _
  | .inr _, _ => exact Finset.mem_singleton_self _

/-! ## What is owed -/

/-- The blocks device `c` has still to send from its `n`-th peer on; -/
def owedRecv (c : Dev nD) (n : ℕ) : CellTallies nD τ sig Unit := ∑ i ∈ rangeSet 15 n 15, tallyAt (cell (peer c i) (.inr (.inr i))) () N
/-- and the signals. -/
def owedBar (c : Dev nD) (n : ℕ) : CellTallies nD τ sig Unit := ∑ i ∈ rangeSet 15 n 15, tallyAt (cell (peer c i) (.inl 0)) () 1
/-- What device `c` owes at the start. -/
def O₀ (c : Dev nD) : CellTallies nD τ sig Unit := owedRecv c 0 + owedBar c 0

theorem owedRecv_step (c : Dev nD) (i : Fin 15) :
    owedRecv c i.val = owedRecv c (i.val + 1) + tallyAt (cell (peer c i) (.inr (.inr i))) () N := by
  unfold owedRecv
  rw [rangeSet_head i.isLt i.isLt, Finset.sum_insert (head_not_mem_rangeSet i.isLt), add_comm]
theorem owedBar_step (c : Dev nD) (i : Fin 15) :
    owedRecv c 0 + owedBar c i.val = (owedRecv c 0 + owedBar c (i.val + 1)) + tallyAt (cell (peer c i) (.inl 0)) () 1 := by
  have h : owedBar c i.val = owedBar c (i.val + 1) + tallyAt (cell (peer c i) (.inl 0)) () 1 := by
    unfold owedBar
    rw [rangeSet_head i.isLt i.isLt, Finset.sum_insert (head_not_mem_rangeSet i.isLt), add_comm]
  rw [h, add_assoc]
theorem owedRecv_end (c : Dev nD) : owedRecv c 15 = 0 := by
  unfold owedRecv; rw [rangeSet_empty le_rfl]; rfl
theorem owedBar_end (c : Dev nD) : owedBar c 15 = 0 := by
  unfold owedBar; rw [rangeSet_empty le_rfl]; rfl

/-- The cells that have levels: the TensorCores'. -/
def L (g : GSem nD τ sig) : Finset Unit := if g.1.2 = .tc then {()} else ∅
/-- The levels: a barrier 1, a receive 2, everything else 0. -/
def lv (g : GSem nD τ sig) (_ : Unit) : ℕ := match kindOf g.2 with
  | some (.inl 0) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl

/-- Everything owed is to cells above level `n`. -/
def Above (n : ℕ) (O : CellTallies nD τ sig Unit) : Prop := ∀ g u, 0 < O g u → u ∈ L g ∧ n < lv g u

theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.zero (n : ℕ) : Above n 0 := fun g u hg => absurd hg (Nat.lt_irrefl 0)
theorem Above.sum {ι : Type} (n : ℕ) (s : Finset ι) (O : ι → CellTallies nD τ sig Unit) (h : ∀ i, Above n (O i)) : Above n (∑ i ∈ s, O i) := by
  classical
  induction s using Finset.induction_on with
  | empty => exact Above.zero n
  | insert a s ha ih => rw [Finset.sum_insert ha]; exact (h a).add ih
theorem Above.tally (n : ℕ) (c : Dev nD) (k : CI) (x : ℕ) (h : n < lv (cell c k) ()) : Above n (tallyAt (cell c k) () x) := fun g u hg => by
  rw [tallyAt_apply] at hg
  by_cases e : g = cell c k ∧ u = ()
  · obtain ⟨rfl, rfl⟩ := e
    exact ⟨by rw [L_tc]; exact Finset.mem_singleton_self _, h⟩
  · rw [if_neg e] at hg; exact absurd hg (Nat.lt_irrefl 0)

theorem lv_cell (c : Dev nD) (k : CI) : lv (cell c k) () = (match k with | .inl 0 => 1 | .inr (.inr _) => 2 | _ => 0) := by
  show (match kindOf (csem k) with | some (.inl 0) => 1 | some (.inr (.inr _)) => 2 | _ => 0) = _
  rw [kindOf_csem]
  rcases k with k | k | k
  · fin_cases k <;> rfl
  · rfl
  · rfl

theorem owedRecv_above (c : Dev nD) (n : ℕ) : Above 1 (owedRecv c n) :=
  Above.sum 1 _ _ fun i => Above.tally 1 _ _ _ (by rw [lv_cell]; exact Nat.one_lt_two)
theorem owedBar_above (c : Dev nD) (n : ℕ) : Above 0 (owedBar c n) :=
  Above.sum 0 _ _ fun i => Above.tally 0 _ _ _ (by rw [lv_cell]; exact Nat.one_pos)
theorem Above.mono {n n' : ℕ} (h : n ≤ n') {O : CellTallies nD τ sig Unit} (hO : Above n' O) : Above n O :=
  fun g u hg => ⟨(hO g u hg).1, lt_of_le_of_lt h (hO g u hg).2⟩
theorem O₀_above (c : Dev nD) : Above 0 (O₀ c) := ((owedRecv_above c 0).mono (Nat.zero_le 1)).add (owedBar_above c 0)

/-- A wait at a cell no higher than everything owed is above. -/
theorem mayWait (c : Dev nD) (sm : SemLoc sig) (n : ℕ) (O : CellTallies nD τ sig Unit) (h : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact h) (fun g u hg => (hO g u hg).2)

/-! ## The records every device reads -/

/-- Every cell's invariant, at the name it was allocated; -/
def invs (K : Dev nD × CI → ℕ) : sProp 𝕄 := bigSep Finset.univ fun ck : Dev nD × CI => cellInv ER (Rd m) (K ck) (kcell ck)
/-- and that its round is open. -/
def opened : sProp 𝕄 := bigSep Finset.univ fun ck : Dev nD × CI => reached ER (kcell ck) 0
/-- The two. -/
def records (K : Dev nD × CI → ℕ) : sProp 𝕄 := iprop(invs m K ∗ opened)

instance invs_persistent (K : Dev nD × CI → ℕ) : BI.Persistent (invs (F := F) m K) := by unfold invs; infer_instance
instance opened_persistent : BI.Persistent (opened (F := F)) := by unfold opened; infer_instance
instance records_persistent (K : Dev nD × CI → ℕ) : BI.Persistent (records (F := F) m K) := by unfold records; infer_instance

theorem invs_elim (K : Dev nD × CI → ℕ) (ck : Dev nD × CI) : invs (F := F) m K ⊢ cellInv ER (Rd m) (K ck) (kcell ck) :=
  bigSep_elim (Finset.mem_univ ck)
theorem opened_elim (ck : Dev nD × CI) : opened (F := F) ⊢ reached ER (kcell ck) 0 :=
  bigSep_elim (Finset.mem_univ ck)

theorem records_inv (K : Dev nD × CI → ℕ) (c : Dev nD) (k : CI) : records (F := F) m K ⊢ cellInv ER (Rd m) (K (c, k)) (cell c k) := by
  unfold records
  iintro ⟨H, -⟩
  iapply (invs_elim m K (c, k)); iexact H
theorem records_reached (K : Dev nD × CI → ℕ) (c : Dev nD) (k : CI) : records (F := F) m K ⊢ reached ER (cell c k) 0 := by
  unfold records
  iintro ⟨-, H⟩
  iapply (opened_elim (c, k)); iexact H

end Cert.KernelIdeal.Exchange

end
-- ==== Proof.Steps.lean ====
/- The stages of the body, one rule for each: what a device must hold to run it and what it holds afterwards. -/
module

public import proofs.«01_k».proof.Proof.Protocol

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ) (K : Dev nD × CI → ℕ)

/-- Device `c` owes `O`, whatever it has waited for. -/
def owing (c : Dev nD) (O : CellTallies nD τ sig Unit) : sProp 𝕄 := iprop(∃ W, owes (c : Thread nD τ) O W)

/-- What is left before trip `i` of a loop is trip `i`'s and what is left after it; -/
theorem range_head {n : ℕ} (i : Fin n) (Φ : Fin n → sProp 𝕄) :
    bigSep (rangeSet n i.val n) Φ = iprop(Φ i ∗ bigSep (rangeSet n (i.val + 1) n) Φ) := bigSep_rangeSet_head i.isLt i.isLt
/-- and what is made by the end of trip `i` is trip `i`'s and what was made before it. -/
theorem range_last {n : ℕ} (i : Fin n) (Φ : Fin n → sProp 𝕄) :
    bigSep (rangeSet n 0 (i.val + 1)) Φ = iprop(Φ i ∗ bigSep (rangeSet n 0 i.val) Φ) := bigSep_rangeSet_last (Nat.succ_pos _) i.isLt

/-! ## Waiting -/

/-- A wait for the whole round of one of the device's own semaphores, after which the semaphore is done with: it takes the
    credit and the device's place, gives what the round hands over and the counter back at zero. -/
theorem wait_close (c : Dev nD) (k : CI) (sm : SemLoc sig) (hs : sm = csem k) (x : ℕ) (hx : x = whole k)
    (w : TpuEff nD τ sig (Elt F) Λ₀ .tc PUnit)
    (hw : ∀ G : PUnit → sProp 𝕄, wpE (defs₀ (F := F)) 𝒱₀ (c : Thread nD τ) none Set.univ w G = waitSpec (c : Thread nD τ) Set.univ sm x G)
    (O : CellTallies nD τ sig Unit) (n : ℕ) (hn : lv (cell c k) () ≤ n) (hO : Above n O)
    {α : Type} (g : PUnit → Prog (TpuEff nD τ sig (Elt F) Λ₀ .tc) α) (Q : α → sProp 𝕄) :
    iprop(records m K ∗ levAts L lv ∗ cred (tallyAt (cell c k) () (whole k)) ∗ owing c O ∗ atPos ER (cell c k) 0 ∅ 0)
      ⊢ iprop(((owing c O ∗ semVal (cell c k) 0 ∗ bigSep (who c k) fun d => pay m c k d)
          -∗ wp frame (wpE (defs₀ (F := F)) 𝒱₀ (c : Thread nD τ) none) Set.univ (g ⟨⟩) Q)
        -∗ wp frame (wpE (defs₀ (F := F)) 𝒱₀ (c : Thread nD τ) none) Set.univ (.op w g) Q) := by
  subst hs hx
  unfold owing
  iintro ⟨#HR, #Hlev, Hc, ⟨%W, HO⟩, Hat⟩ HQ
  iapply (Rounds.wp_wait_rest_token 𝒱₀ ER (Rd m) (c : Thread nD τ) none (κ := K (c, k)) hw (Set.mem_univ _) ()
      (O := O) (W := W) (R := 0) (m := 0) (T := ∅) (by rw [Nat.zero_add]; exact (expect_cell m c k).symm)) $$ [Hc HO Hat]
  · isplitr; · iapply (records_inv m K c k); iexact HR
    isplitl [Hc]; · iexact Hc
    isplitl [HO]; · iexact HO
    isplitr; · iapply (mayWait c (csem k) n O hn hO); iexact Hlev
    iexact Hat
  iintro ⟨HO, Hat, -, Hpay⟩
  ihave Hp := (Entails.of_eq (rest_cell m c k)) $$ Hpay
  imod (Rounds.cell_close ER (Rd m) (Set.mem_univ (K (c, k))) (fun h => h) (R := 0 + 1) (duties_later m (cell c k))) $$ [Hat] with Hz
  · isplitr; · iapply (records_inv m K c k); iexact HR
    iexact Hat
  iapply HQ
  isplitl [HO]; · iexists _; iexact HO
  isplitl [Hz]; · iexact Hz
  iexact Hp

/-- What a semaphore raised once hands over. -/
theorem paid_once (c : Dev nD) (k : CI) (h : who c k = {0}) : (bigSep (who c k) fun d => pay (F := F) m c k d) = pay m c k 0 := by
  rw [h, bigSep_singleton]

/-! ## Signalling -/

/-- What is left before the `n`-th signal. -/
def sigInv (c : Dev nD) (n : ℕ) : sProp 𝕄 :=
  iprop(records m K ∗ owing c (owedRecv c 0 + owedBar c n)
    ∗ bigSep (rangeSet 15 n 15) fun i => iprop(dutyTok ER (cell (peer c i) (.inl 0)) 0 c ∗ ∃ f, outAt c (rowSet (peer c i)) f))

/-- Each signal hands a peer the rows it will write. -/
theorem sig_step (c : Dev nD) (i : Fin 15) (Q : PUnit → sProp 𝕄) :
    iprop(sigInv (F := F) m K c i.val ∗ (sigInv m K c (i.val + 1) -∗ Q ⟨⟩)) ⊢ runs c (sigStep c i) Q := by
  unfold sigStep
  rw [sigDev_eq]
  simp only [semSignalWord]
  unfold sigInv owing
  rw [range_head]
  iintro ⟨⟨#HR, ⟨%W, HO⟩, ⟨Ht, Hf⟩, Hrest⟩, HQ⟩
  iapply (Rounds.wp_signal 𝒱₀ ER (Rd m) (c : Thread nD τ) none (dst := (peer c i : Thread nD τ)) (κ := K (peer c i, .inl 0)) (r := 0) (d := c)
      (by show c ∈ (Rd m).duties (cell (peer c i) (.inl 0)) 0; rw [duties_cell m (peer c i) (.inl 0)]; exact Finset.mem_erase.mpr ⟨(peer_ne c i).symm, Finset.mem_univ _⟩)
      ((amount_cell m (peer c i) (.inl 0) c).trans (by decide)) () (owedRecv c 0 + owedBar c (i.val + 1)) (owedBar_step c i)) $$ [HO Ht Hf]
  · isplitr; · iapply (records_inv m K (peer c i) (.inl 0)); iexact HR
    isplitl [HO]; · iexact HO
    isplitl [Ht]; · iexact Ht
    isplitl [Hf]; · iapply (Entails.of_eq (show iprop(∃ f, outAt c (rowSet (peer c i)) f) = (Rd m).payload ((peer c i : Thread nD τ), .reg barSems.sem) 0 c from (payload_cell m (peer c i) (.inl 0) c).symm)); iexact Hf
    iapply (records_reached m K (peer c i) (.inl 0)); iexact HR
  iintro HO
  rw [wp_ret]
  imodintro
  iapply HQ
  isplitr; · iexact HR
  isplitl [HO]; · iexists _; iexact HO
  iexact Hrest

/-! ## Fetching and multiplying -/

/-- A whole buffer through its own view. -/
theorem held_eq (c : Dev nD) (b : Ref sig .tc) (f : Buf (Elt F) ((c : Thread nD τ).loc b)) :
    ((Memref.whole b).view.loc (c : Thread nD τ) ↦[(Memref.whole b).view.set]{fullShare} f : sProp 𝕄) = held c b f := by
  rw [View.set_whole]

/-- A fetch into one of the device's own buffers raises one of its own semaphores. -/
theorem fetch {α : Type} (c : Dev nD) (k : CI) (h0 : k ≠ .inl 0) (sm : SemLoc sig) (hs : sm = csem k) {sp sp' : Space} {s : Shape} {e : EltTy}
    (a : Memref sig .tc sp s e) (b : Memref sig .tc sp' s e) (hN : b.view.amount sm = amt k) {ha : a.view.WordExact} {hb : b.view.WordExact}
    {ht : DmaTarget.Typed (nD := nD) (τ := τ) (p := .tc) sp sm (.here b)} (fs : Buf (Elt F) (a.view.loc (c : Thread nD τ))) (fd : Buf (Elt F) (b.view.loc (c : Thread nD τ)))
    (hpay : iprop((b.view.loc (c : Thread nD τ) ↦[b.view.set]{fullShare} (b.view.write (Elt F) fd (a.view.read (Elt F) fs) Finset.univ))
      ∗ (a.view.loc (c : Thread nD τ) ↦[a.view.set]{fullShare} fs)) ⊢ pay m c k 0)
    (g : PUnit → Prog (TpuEff nD τ sig (Elt F) Λ₀ .tc) α) (Q : α → sProp 𝕄) :
    iprop(records m K ∗ (a.view.loc (c : Thread nD τ) ↦[a.view.set]{fullShare} fs) ∗ (b.view.loc (c : Thread nD τ) ↦[b.view.set]{fullShare} fd)
        ∗ dutyTok ER (cell c k) 0 0)
      ⊢ iprop((cred (tallyAt (cell c k) () (amt k)) -∗ wp frame (wpE (defs₀ (F := F)) 𝒱₀ (c : Thread nD τ) none) Set.univ (g ⟨⟩) Q)
        -∗ wp frame (wpE (defs₀ (F := F)) 𝒱₀ (c : Thread nD τ) none) Set.univ (.op (.enqueueDma a (.here b) sm ha hb ht) g) Q) := by
  subst hs
  iintro ⟨#HR, Ha, Hb, Ht⟩ HQ
  iapply (Rounds.wp_copy_pointsTo 𝒱₀ ER (Rd m) (c : Thread nD τ) none (κ := K (c, k)) (q := fullShare) (fs := fs) (fd := fd) (r := 0) (d := 0)
      (by rw [duties_cell m c k]; exact mem_who_zero c k h0) () (amt k) hN (amount_cell m c k 0)
      (hpay.trans (Entails.of_eq (payload_cell m c k 0).symm))) $$ [Ha Hb Ht]
  · isplitr; · iapply (records_inv m K c k); iexact HR
    isplitl [Ha]; · iexact Ha
    isplitl [Hb]; · iexact Hb
    isplitl [Ht]; · iexact Ht
    iapply (records_reached m K c k); iexact HR
  iexact HQ

theorem hz : (![0, 0] : Fin 2 → Nat) = fun _ => 0 := funext fun a => by fin_cases a <;> rfl

/-- What the wait for the fetch of the rows of `x` hands over; -/
theorem paid_x (c : Dev nD) : (bigSep (who c (.inl 1)) fun d => pay (F := F) m c (.inl 1) d)
    = iprop(held c cc0_scratch0 (xv m c) ∗ held c main_arg0 (xv m c)) := paid_once m c (.inl 1) rfl
/-- and for that of the weights. -/
theorem paid_w (c : Dev nD) : (bigSep (who c (.inl 2)) fun d => pay (F := F) m c (.inl 2) d)
    = iprop(held c cc0_scratch1 (wv m c) ∗ held c main_arg1 (wv m c)) := paid_once m c (.inl 2) rfl

/-- What the device holds of its own to fetch and multiply with; -/
def mulPre (c : Dev nD) : sProp 𝕄 :=
  iprop(records m K ∗ levAts L lv ∗ owing c (owedRecv c 0)
    ∗ (dutyTok ER (cell c (.inl 1)) 0 0 ∗ atPos ER (cell c (.inl 1)) 0 ∅ 0) ∗ (dutyTok ER (cell c (.inl 2)) 0 0 ∗ atPos ER (cell c (.inl 2)) 0 ∅ 0)
    ∗ held c main_arg0 (xv m c) ∗ held c main_arg1 (wv m c)
    ∗ (∃ f, held c cc0_scratch0 f) ∗ (∃ f, held c cc0_scratch1 f) ∗ (∃ f, held c cc0_scratch2 f))
/-- and afterwards: the operands as they were, their copies, the product, and the two fetches' semaphores at zero. -/
def mulPost (c : Dev nD) : sProp 𝕄 :=
  iprop(owing c (owedRecv c 0) ∗ (held c main_arg0 (xv m c) ∗ held c main_arg1 (wv m c))
    ∗ (held c cc0_scratch0 (xv m c) ∗ held c cc0_scratch1 (wv m c)) ∗ held c cc0_scratch2 (yv m c)
    ∗ (semVal (cell c (.inl 1)) 0 ∗ semVal (cell c (.inl 2)) 0))

theorem fetch_x (c : Dev nD) (fd : Buf (Elt F) (xM.view.loc (c : Thread nD τ))) :
    iprop((xM.view.loc (c : Thread nD τ) ↦[xM.view.set]{fullShare} (xM.view.write (Elt F) fd (xH.view.read (Elt F) (xv m c)) Finset.univ))
      ∗ (xH.view.loc (c : Thread nD τ) ↦[xH.view.set]{fullShare} xv m c)) ⊢ pay m c (.inl 1) 0 := by
  rw [held_eq, held_eq]
  have e : xM.view.write (Elt F) fd (xH.view.read (Elt F) (xv m c)) Finset.univ = xv m c :=
    (View.write_whole_univ cc0_scratch0 fd _).trans (View.read_whole main_arg0 (xv m c))
  rw [e]; exact BI.Entails.refl _

theorem fetch_w (c : Dev nD) (fd : Buf (Elt F) (wM.view.loc (c : Thread nD τ))) :
    iprop((wM.view.loc (c : Thread nD τ) ↦[wM.view.set]{fullShare} (wM.view.write (Elt F) fd (wH.view.read (Elt F) (wv m c)) Finset.univ))
      ∗ (wH.view.loc (c : Thread nD τ) ↦[wH.view.set]{fullShare} wv m c)) ⊢ pay m c (.inl 2) 0 := by
  rw [held_eq, held_eq]
  have e : wM.view.write (Elt F) fd (wH.view.read (Elt F) (wv m c)) Finset.univ = wv m c :=
    (View.write_whole_univ cc0_scratch1 fd _).trans (View.read_whole main_arg1 (wv m c))
  rw [e]; exact BI.Entails.refl _

/-- What the store of the product leaves. -/
theorem mul_writes (c : Dev nD) (fy : Buf (Elt F) (yM.view.loc (c : Thread nD τ))) :
    (yM.access (Rect.unit (s := S64x1024) ![0, 0] S64x1024.size inb_S64x1024_S64x1024_0_0) : View sig .tc _ _ _).write (Elt F) fy
      (k0_pay1 (xM.view.readAt (Elt F) (Rect.unit (s := S64x1024) ![0, 0] S64x1024.size inb_S64x1024_S64x1024_0_0).toLoadRect (xv m c))
        (wM.view.readAt (Elt F) (Rect.unit (s := S1024x1024) ![0, 0] S1024x1024.size inb_S1024x1024_S1024x1024_0_0).toLoadRect (wv m c))) Finset.univ
      = yv m c := by
  refine (Memref.write_access_unit_zero_univ (Elt F) cc0_scratch2 hz _ fy _).trans ?_
  exact congrArg₂ k0_pay1 (Memref.readAt_unit_zero (Elt F) cc0_scratch0 hz _ (xv m c)) (Memref.readAt_unit_zero (Elt F) cc0_scratch1 hz _ (wv m c))

/-- The fetches, the two waits, and the product. -/
theorem mul_step (c : Dev nD) (Q : PUnit → sProp 𝕄) :
    iprop(mulPre (F := F) m K c ∗ (mulPost m c -∗ Q ⟨⟩))
      ⊢ runs c (fetchMul xH (Memref.isWhole_whole _) wH (Memref.isWhole_whole _) xM (Memref.isWhole_whole _) wM (Memref.isWhole_whole _) yM cc0_scratch4 cc0_scratch5) Q := by
  unfold fetchMul mulPre
  simp only [Prog.lift, Prog.bind_op, Prog.bind_ret, Prog.pure_eq_ret]
  iintro ⟨⟨#HR, #Hlev, HO, ⟨Htx, Hax⟩, ⟨Htw, Haw⟩, Hx, Hw, ⟨%fx, Hxs⟩, ⟨%fw, Hws⟩, ⟨%fy, Hys⟩⟩, HQ⟩
  iapply (fetch m K c (.inl 1) (by decide) (.dma cc0_scratch4.sem) rfl xH xM rfl (xv m c) fx (fetch_x m c fx)) $$ [Hx Hxs Htx]
  · isplitr; · iexact HR
    isplitl [Hx]; · iapply (Entails.of_eq (held_eq c main_arg0 (xv m c)).symm); iexact Hx
    isplitl [Hxs]; · iapply (Entails.of_eq (held_eq c cc0_scratch0 fx).symm); iexact Hxs
    iexact Htx
  iintro Hcx
  iapply (fetch m K c (.inl 2) (by decide) (.dma cc0_scratch5.sem) rfl wH wM rfl (wv m c) fw (fetch_w m c fw)) $$ [Hw Hws Htw]
  · isplitr; · iexact HR
    isplitl [Hw]; · iapply (Entails.of_eq (held_eq c main_arg1 (wv m c)).symm); iexact Hw
    isplitl [Hws]; · iapply (Entails.of_eq (held_eq c cc0_scratch1 fw).symm); iexact Hws
    iexact Htw
  iintro Hcw
  iapply (wait_close m K c (.inl 1) (.dma cc0_scratch4.sem) rfl Nx rfl _ (wpE_waitDma2_eq 𝒱₀ (c : Thread nD τ) none Set.univ)
    (owedRecv c 0) 0 (by rw [lv_cell]; exact Nat.le_refl 0) ((owedRecv_above c 0).mono (Nat.zero_le 1))) $$ [Hcx HO Hax]
  · isplitr; · iexact HR
    isplitr; · iexact Hlev
    isplitl [Hcx]; · iexact Hcx
    isplitl [HO]; · iexact HO
    iexact Hax
  iintro ⟨HO, Hzx, Hp⟩
  ihave Hp := (Entails.of_eq (paid_x m c)) $$ Hp
  icases Hp with ⟨Hxs, Hx⟩
  iapply (wait_close m K c (.inl 2) (.dma cc0_scratch5.sem) rfl Nw rfl _ (wpE_waitDma2_eq 𝒱₀ (c : Thread nD τ) none Set.univ)
    (owedRecv c 0) 0 (by rw [lv_cell]; exact Nat.le_refl 0) ((owedRecv_above c 0).mono (Nat.zero_le 1))) $$ [Hcw HO Haw]
  · isplitr; · iexact HR
    isplitr; · iexact Hlev
    isplitl [Hcw]; · iexact Hcw
    isplitl [HO]; · iexact HO
    iexact Haw
  iintro ⟨HO, Hzw, Hp⟩
  ihave Hp := (Entails.of_eq (paid_w m c)) $$ Hp
  icases Hp with ⟨Hws, Hw⟩
  iapply (wp_load 𝒱₀ (c : Thread nD τ) none Set.univ (m := xM) (Finset.subset_univ _)) $$ Hxs; iintro Hxs
  iapply (wp_load 𝒱₀ (c : Thread nD τ) none Set.univ (m := wM) (Finset.subset_univ _)) $$ Hws; iintro Hws
  iapply (wp_load 𝒱₀ (c : Thread nD τ) none Set.univ (m := yM) (Finset.subset_univ _)) $$ Hys; iintro Hys
  iapply (wp_store 𝒱₀ (c : Thread nD τ) none Set.univ (m := yM) (r := Rect.unit (s := S64x1024) ![0, 0] S64x1024.size inb_S64x1024_S64x1024_0_0) (Mk := Finset.univ) (Finset.subset_univ _)) $$ Hys; iintro Hys
  rw [wp_ret]
  imodintro
  iapply HQ
  unfold mulPost
  isplitl [HO]; · iexact HO
  isplitl [Hx Hw]; · isplitl [Hx] <;> iassumption
  isplitl [Hxs Hws]; · isplitl [Hxs] <;> iassumption
  isplitl [Hys]; · iapply (Entails.of_eq (congrArg (fun f => (held c cc0_scratch2 f : sProp 𝕄)) (mul_writes m c fy))); iexact Hys
  isplitl [Hzx] <;> iassumption

end Cert.KernelIdeal.Exchange

end
-- ==== Proof.Exchange.lean ====
/- The later stages of the body: the send buffer filled, the device's own block, the sends and the waits for them. -/
module

public import proofs.«01_k».proof.Proof.Steps

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ) (K : Dev nD × CI → ℕ)

/-! ## Filling the send buffer -/

/-- The send buffer right below slot `n`, beside the product. -/
def fillInv (c : Dev nD) (n : ℕ) : sProp 𝕄 :=
  iprop(held c cc0_scratch2 (yv m c)
    ∗ ∃ f : Buf (Elt F) ((c : Thread nD τ).loc cc0_scratch3), ⌜∀ i : S16x64x64.Idx, (i 0).val < n → f i = sv m c i⌝ ∗ held c cc0_scratch3 f)

/-- Each trip fills one slot. -/
theorem fill_step (c : Dev nD) (j : Fin 16) (Q : PUnit → sProp 𝕄) :
    iprop(fillInv (F := F) m c j.val ∗ (fillInv m c (j.val + 1) -∗ Q ⟨⟩)) ⊢ runs c (fillStep yM sM (Memref.isWhole_whole _) j) Q := by
  unfold fillStep fillInv
  simp only [Prog.lift, Prog.bind_op, Prog.bind_ret, Prog.pure_eq_ret]
  iintro ⟨⟨Hy, ⟨%f, %hf, Hs⟩⟩, HQ⟩
  iapply (wp_load 𝒱₀ (c : Thread nD τ) none Set.univ (m := yM) (Finset.subset_univ _)) $$ Hy; iintro Hy
  iapply (wp_load 𝒱₀ (c : Thread nD τ) none Set.univ (m := sM) (Finset.subset_univ _)) $$ Hs; iintro Hs
  iapply (wp_store 𝒱₀ (c : Thread nD τ) none Set.univ (m := sM) (r := slotR j) (Mk := Finset.univ) (Finset.subset_univ _)) $$ Hs; iintro Hs
  rw [wp_ret]
  imodintro
  iapply HQ
  isplitl [Hy]; · iexact Hy
  iexists _
  isplitr; · ipureintro; exact fill_agree m c j f hf
  iexact Hs

/-- A send buffer filled. -/
theorem fill_end (c : Dev nD) : fillInv (F := F) m c 16 ⊢ iprop(held c cc0_scratch2 (yv m c) ∗ held c cc0_scratch3 (sv m c)) := by
  unfold fillInv
  iintro ⟨Hy, ⟨%f, %hf, Hs⟩⟩
  have e : f = sv m c := funext fun i => hf i (i 0).isLt
  subst e
  isplitl [Hy] <;> iassumption

/-! ## The device's own block -/

/-- A load of a row block reads only it. -/
theorem row_access (c : Dev nD) : oM.view.setOn (rowR c).toLoadRect.set ⊆ rowSet c := by
  rw [show rowSet c = _ from View.set_slice oM.view (rowR c)]
  exact Finset.Subset.refl _

/-- The device's own block reaches its own rows, its offsets given by what they equal; -/
theorem own_at (c : Dev nD) (o1 : Fin 3 → Nat) (e1 : o1 = ![c.val, 0, 0]) (h1 : ∀ a, o1 a + S1x64x64.size a ≤ S16x64x64.size a)
    (o2 : Fin 2 → Nat) (e2 : o2 = ![64 * c.val, 0]) (h2 : ∀ a, o2 a + S64x64.size a ≤ S1024x64.size a)
    (hl1 : sM.view.LoadsAt (Rect.unit (s := S16x64x64) o1 S1x64x64.size h1).toLoadRect)
    (hl2 : oM.view.LoadsAt (Rect.unit (s := S1024x64) o2 S64x64.size h2).toLoadRect)
    (hs : (oM.access (Rect.unit (s := S1024x64) o2 S64x64.size h2)).Stores Finset.univ) (hm) (Q : PUnit → sProp 𝕄) :
    iprop((held c cc0_scratch3 (sv m c) ∗ ∃ f, outAt c (rowSet c) f)
        ∗ ((held c cc0_scratch3 (sv m c) ∗ outAt c (rowSet c) (ov m c)) -∗ Q ⟨⟩))
      ⊢ runs c (.op (.load sM (Rect.unit (s := S16x64x64) o1 S1x64x64.size h1).toLoadRect hl1) fun v =>
          .op (.load oM (Rect.unit (s := S1024x64) o2 S64x64.size h2).toLoadRect hl2) fun _ =>
          .op (.store oM (Rect.unit (s := S1024x64) o2 S64x64.size h2) (k0_pay19 v) Finset.univ hs hm) .ret) Q := by
  subst e1 e2
  iintro ⟨⟨Hs, ⟨%f, Ho⟩⟩, HQ⟩
  iapply (wp_load 𝒱₀ (c : Thread nD τ) none Set.univ (m := sM) (Finset.subset_univ _)) $$ Hs; iintro Hs
  iapply (wp_load 𝒱₀ (c : Thread nD τ) none Set.univ (m := oM) (S := rowSet c) (row_access c)) $$ Ho; iintro Ho
  iapply (wp_store 𝒱₀ (c : Thread nD τ) none Set.univ (m := oM) (r := rowR c) (Mk := Finset.univ) (S := rowSet c) (Finset.Subset.refl _)) $$ Ho; iintro Ho
  rw [wp_ret]
  imodintro
  iapply HQ
  isplitl [Hs]; · iexact Hs
  iapply (Entails.of_eq (pointsTo_congr fun i hi => own_agree m c f i hi)); iexact Ho

/-- and at the offsets the kernel computes. -/
theorem own_step (c : Dev nD) (Q : PUnit → sProp 𝕄) :
    iprop((held c cc0_scratch3 (sv m c) ∗ ∃ f, outAt c (rowSet c) f)
        ∗ ((held c cc0_scratch3 (sv m c) ∗ outAt c (rowSet c) (ov m c)) -∗ Q ⟨⟩))
      ⊢ runs c (ownStep oM (Memref.isWhole_whole _) sM c) Q :=
  own_at m c (k0_off1 c) (k0_off1_eq c) _ (k0_off2 c) (k0_off2_eq c) _ _ _ _ _ Q

/-! ## Sending -/

/-- What a send to peer `i` uses: the slot, the peer's rows, and the right to raise the two semaphores. -/
def sendNeed (c : Dev nD) (i : Fin 15) : sProp 𝕄 :=
  iprop(sendAt c (slotSet (peer c i)) (sv m c) ∗ (∃ f, outAt (peer c i) (rowSet c) f)
    ∗ dutyTok ER (cell c (.inr (.inl i))) 0 0 ∗ dutyTok ER (cell (peer c i) (.inr (.inr i))) 0 0)

/-- What is left before the `n`-th send, and the credits of the sends before it. -/
def sendInv (c : Dev nD) (n : ℕ) : sProp 𝕄 :=
  iprop(records m K ∗ owing c (owedRecv c n) ∗ bigSep (rangeSet 15 n 15) (sendNeed m c)
    ∗ bigSep (rangeSet 15 0 n) fun i => cred (tallyAt (cell c (.inr (.inl i))) () N))

/-- The slot sent to peer `i`, at the offsets the kernel computes; -/
theorem slotOf_eq (c : Dev nD) (i : Fin 15) : slotOf sM c i = slotM (peer c i) := by
  have h : ∀ (o : Fin 3 → Nat) (e : o = ![(peer c i).val, 0, 0]) (h : ∀ a, o a + S1x64x64.size a ≤ S16x64x64.size a),
      (sM.slice (Rect.unit (s := S16x64x64) o S1x64x64.size h) (fun _ => rfl)).squeeze S64x64 squeezes_S1x64x64_S64x64 = slotM (peer c i) := by
    intro o e h; subst e; rfl
  exact h _ (off4_eq c i) _
/-- and the rows it is sent to. -/
theorem rowsOf_eq (c : Dev nD) : rowsOf oM c = rowM c := by
  have h : ∀ (o : Fin 2 → Nat) (e : o = ![64 * c.val, 0]) (h : ∀ a, o a + S64x64.size a ≤ S1024x64.size a),
      oM.slice (Rect.unit (s := S1024x64) o S64x64.size h) (fun _ => rfl) = rowM c := by
    intro o e h; subst e; rfl
  exact h _ (k0_off3_eq c) _

/-- What a send leaves in the peer's rows is what the peer's receive hands over. -/
theorem send_pay (c : Dev nD) (i : Fin 15) (f : Buf (Elt F) ((rowM c).view.loc (peer c i : Thread nD τ))) :
    ((rowM c).view.loc (peer c i : Thread nD τ) ↦[(rowM c).view.set]{fullShare}
        ((rowM c).view.write (Elt F) f ((slotM (peer c i)).view.read (Elt F) (sv m c)) Finset.univ))
      ⊢ (Rd m).payload (cell (peer c i) (.inr (.inr i))) 0 0 := by
  have e : (Rd m).payload (cell (peer c i) (.inr (.inr i))) 0 0 = outAt (peer c i) (rowSet c) (ov m (peer c i)) := by
    refine (payload_cell m (peer c i) (.inr (.inr i)) 0).trans ?_
    show outAt (peer c i) (rowSet (src (peer c i) i)) (ov m (peer c i)) = _
    rw [src_peer]
  exact (Entails.of_eq (pointsTo_congr fun j hj => send_agree m c (peer c i) f j hj)).trans (Entails.of_eq e.symm)

/-- What a send takes from the send buffer is what its own semaphore hands back. -/
theorem sent_pay (c : Dev nD) (i : Fin 15) :
    ((slotM (peer c i)).view.loc (c : Thread nD τ) ↦[(slotM (peer c i)).view.set]{fullShare} sv m c)
      ⊢ (Rd m).payload (cell c (.inr (.inl i))) 0 0 :=
  Entails.of_eq (payload_cell m c (.inr (.inl i)) 0).symm

/-- A send, its semaphores, source and destination named by their places. -/
theorem send_at (c t : Dev nD) (i : Fin 15) (ht : t = peer c i) (sS sR : SemLoc sig) (hS : sS = csem (.inr (.inl i))) (hR : sR = csem (.inr (.inr i)))
    (a : Memref sig .tc .vmem S64x64 .bf16) (ea : a = slotM (peer c i)) (b : Memref sig .tc .vmem S64x64 .bf16) (eb : b = rowM c)
    (hN : (rowM c).view.amount sR = N) {hsc : b.view.ref.isScScratch = false} {ha : a.view.WordExact} {hb : b.view.WordExact}
    {hty : DmaTarget.Typed .vmem sR (.remote (Dev.tc t : Thread nD τ) b sS hsc)} (Q : PUnit → sProp 𝕄) :
    iprop(records m K ∗ owing c (owedRecv c i.val) ∗ sendNeed m c i)
      ⊢ iprop(((owing c (owedRecv c (i.val + 1)) ∗ cred (tallyAt (cell c (.inr (.inl i))) () N)) -∗ Q ⟨⟩)
        -∗ runs c (.op (.enqueueDma a (.remote (Dev.tc t : Thread nD τ) b sS hsc) sR ha hb hty) .ret) Q) := by
  subst ht hS hR ea eb
  unfold owing sendNeed
  iintro ⟨#HR, ⟨%W, HO⟩, Hs, ⟨%f, Ho⟩, Hts, Htr⟩ HQ
  have H := Rounds.wp_send_pointsTo (defs := defs₀ (F := F)) (Γ := PendingWaitsCtx.empty) 𝒱₀ ER (Rd m) (c : Thread nD τ) none (c' := (peer c i : Thread nD τ)) (src := slotM (peer c i)) (dst := rowM c)
    (sS := csem (.inr (.inl i))) (sem := csem (.inr (.inr i))) (hsc := hsc) (hsrc := ha) (hdst := hb) (hsem := hty) (k := fun _ => .ret ⟨⟩) (Q := Q)
    (κ₁ := K (c, .inr (.inl i))) (κ₂ := K (peer c i, .inr (.inr i))) (r₁ := 0) (r₂ := 0) (d₁ := 0) (d₂ := 0) (fs := sv m c) (fd := f) (q := fullShare)
    (by rw [duties_cell m c (.inr (.inl i))]; exact mem_who_zero _ _ (by simp)) (by rw [duties_cell m (peer c i) (.inr (.inr i))]; exact mem_who_zero _ _ (by simp))
    () () N hN (amount_cell m c (.inr (.inl i)) 0) (amount_cell m (peer c i) (.inr (.inr i)) 0) (owedRecv c (i.val + 1)) (owedRecv_step c i) (W := W)
    (sent_pay m c i) (send_pay m c i f) (Es := Set.univ)
  iapply H $$ [HO Hs Ho Hts Htr]
  · isplitr; · iapply (records_inv m K c (.inr (.inl i))); iexact HR
    isplitr; · iapply (records_inv m K (peer c i) (.inr (.inr i))); iexact HR
    isplitl [Hs]; · iexact Hs
    isplitl [Ho]; · iexact Ho
    isplitl [HO]; · iexact HO
    isplitl [Hts]; · iexact Hts
    isplitr; · iapply (records_reached m K c (.inr (.inl i))); iexact HR
    isplitl [Htr]; · iexact Htr
    iapply (records_reached m K (peer c i) (.inr (.inr i))); iexact HR
  iintro ⟨Hc, HO⟩
  rw [wp_ret]
  imodintro
  iapply HQ
  isplitl [HO]; · iexists _; iexact HO
  iexact Hc

/-- Each trip sends one block. -/
theorem send_step (c : Dev nD) (i : Fin 15) (Q : PUnit → sProp 𝕄) :
    iprop(sendInv (F := F) m K c i.val ∗ (sendInv m K c (i.val + 1) -∗ Q ⟨⟩))
      ⊢ runs c (sendStep oM (Memref.isWhole_whole _) sM (Memref.isWhole_whole _) cc0_scratch6 cc0_scratch7 c i) Q := by
  unfold sendStep Prog.lift sendInv
  rw [range_head, range_last]
  iintro ⟨⟨#HR, HO, ⟨Hn, Hrest⟩, Hcs⟩, HQ⟩
  iapply (send_at m K c (sendDev c i) i (sendDev_eq c i) (.dma (semAt cc0_scratch6 i).sem) (.dma (semAt cc0_scratch7 i).sem) rfl rfl _ (slotOf_eq c i) _ (rowsOf_eq c) rfl) $$ [HO Hn]
  · isplitr; · iexact HR
    isplitl [HO] <;> iassumption
  iintro ⟨HO, Hc⟩
  iapply HQ
  isplitr; · iexact HR
  isplitl [HO]; · iexact HO
  isplitl [Hrest]; · iexact Hrest
  isplitl [Hc] <;> iassumption

/-! ## Receiving, and the sends done -/

/-- What a loop of waits for the semaphores `k` has left, and what it has been handed. -/
def waitInv (c : Dev nD) (k : Fin 15 → CI) (n : ℕ) : sProp 𝕄 :=
  iprop(records m K ∗ levAts L lv ∗ owing c 0
    ∗ (bigSep (rangeSet 15 n 15) fun i => iprop(cred (tallyAt (cell c (k i)) () (whole (k i))) ∗ atPos ER (cell c (k i)) 0 ∅ 0))
    ∗ bigSep (rangeSet 15 0 n) fun i => iprop(semVal (cell c (k i)) 0 ∗ bigSep (who c (k i)) fun d => pay m c (k i) d))

/-- Each trip of such a loop waits for one of them. -/
theorem wait_step (c : Dev nD) (k : Fin 15 → CI) (i : Fin 15) (sm : DmaSem sig) (hs : .dma sm = csem (k i)) {sp sp' : Space} {s s' : Shape} {e e' : EltTy}
    (a : Memref sig .tc sp' s' e') (b : Memref sig .tc sp s e) (hx : b.view.dmaCredit = whole (k i)) {ha : a.view.WordExact} {hb : b.view.WordExact}
    (Q : PUnit → sProp 𝕄) :
    iprop(waitInv (F := F) m K c k i.val ∗ (waitInv m K c k (i.val + 1) -∗ Q ⟨⟩)) ⊢ runs c (.op (.waitDma2 sm a b ha hb) .ret) Q := by
  unfold waitInv
  rw [range_head, range_last]
  iintro ⟨⟨#HR, #Hlev, HO, ⟨⟨Hc, Hat⟩, Hrest⟩, Hgot⟩, HQ⟩
  iapply (wait_close m K c (k i) (.dma sm) hs _ hx _ (wpE_waitDma2_eq 𝒱₀ (c : Thread nD τ) none Set.univ) 0 (lv (cell c (k i)) ()) (Nat.le_refl _) (Above.zero _)) $$ [Hc HO Hat]
  · isplitr; · iexact HR
    isplitr; · iexact Hlev
    isplitl [Hc]; · iexact Hc
    isplitl [HO]; · iexact HO
    iexact Hat
  iintro ⟨HO, Hz, Hp⟩
  rw [wp_ret]
  imodintro
  iapply HQ
  isplitr; · iexact HR
  isplitr; · iexact Hlev
  isplitl [HO]; · iexact HO
  isplitl [Hrest]; · iexact Hrest
  isplitl [Hz Hp]; · isplitl [Hz] <;> iassumption
  iexact Hgot

/-- Waiting for the blocks sent here. -/
theorem recv_step (c : Dev nD) (i : Fin 15) (Q : PUnit → sProp 𝕄) :
    iprop(waitInv (F := F) m K c (fun i => .inr (.inr i)) i.val ∗ (waitInv m K c (fun i => .inr (.inr i)) (i.val + 1) -∗ Q ⟨⟩))
      ⊢ runs c (recvStep oM (Memref.isWhole_whole _) sM (Memref.isWhole_whole _) cc0_scratch7 c i) Q := by
  unfold recvStep Prog.lift
  exact wait_step m K c (fun i => .inr (.inr i)) i (semAt cc0_scratch7 i).sem rfl _ _ (by exact rfl) Q

/-- Waiting for the blocks sent from here to be gone. -/
theorem done_step (c : Dev nD) (i : Fin 15) (Q : PUnit → sProp 𝕄) :
    iprop(waitInv (F := F) m K c (fun i => .inr (.inl i)) i.val ∗ (waitInv m K c (fun i => .inr (.inl i)) (i.val + 1) -∗ Q ⟨⟩))
      ⊢ runs c (doneStep oM (Memref.isWhole_whole _) sM (Memref.isWhole_whole _) cc0_scratch6 c i) Q := by
  unfold doneStep Prog.lift
  exact wait_step m K c (fun i => .inr (.inl i)) i (semAt cc0_scratch6 i).sem rfl _ _ (by exact rfl) Q

end Cert.KernelIdeal.Exchange

end
-- ==== Proof.Body.lean ====
/- The body run from what a device holds on entering the kernel to what it holds on leaving it. -/
module

public import proofs.«01_k».proof.Proof.Exchange

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Regrouping -/

/-- What is held for every semaphore of the exchange, by its sort. -/
theorem bigSep_CI (Φ : CI → sProp 𝕄) : bigSep Finset.univ Φ
    = iprop((Φ (.inl 0) ∗ Φ (.inl 1) ∗ Φ (.inl 2)) ∗ (bigSep Finset.univ fun i => Φ (.inr (.inl i))) ∗ bigSep Finset.univ fun i => Φ (.inr (.inr i))) := by
  rw [bigSep_univ_sum, bigSep_univ_sum, bigSep_univ_eq_bigSepL [0, 1, 2] (by decide) (by decide)]
  rfl

/-- Every row block of a result buffer is one device's own and the fifteen others'. -/
theorem out_blocks (c : Dev nD) (f : Buf (Elt F) ((c : Thread nD τ).loc cc0_stg0_0)) :
    (held c cc0_stg0_0 f : sProp 𝕄) = iprop(outAt c (rowSet c) f ∗ bigSep (Finset.univ.erase c) fun t => outAt c (rowSet t) f) := by
  have h := pointsTo_blocks (Ix := Unit) (Name := ℕ) (U := UU) (Lvl := ℕ) (ℓ := (c : Thread nD τ).loc cc0_stg0_0) (I := rowSet) rowSet_disjoint rowSet_cover (q := fullShare) f
  exact h.trans (bigSep_univ_split c)

/-- A result buffer handed out: the device's own rows, and each peer's. -/
theorem out_split (c : Dev nD) (f : Buf (Elt F) ((c : Thread nD τ).loc cc0_stg0_0)) :
    (held c cc0_stg0_0 f : sProp 𝕄) ⊢ iprop((∃ f, outAt c (rowSet c) f) ∗ bigSep Finset.univ fun i => iprop(∃ f, outAt c (rowSet (peer c i)) f)) := by
  rw [out_blocks, bigSep_peers]
  iintro ⟨H, Hs⟩
  isplitl [H]; · iexists f; iexact H
  have h : (bigSep Finset.univ fun i => outAt c (rowSet (peer c i)) f : sProp 𝕄) ⊢ bigSep Finset.univ fun i => iprop(∃ f, outAt c (rowSet (peer c i)) f) :=
    bigSep_mono fun i _ => (show (outAt c (rowSet (peer c i)) f : sProp 𝕄) ⊢ iprop(∃ f, outAt c (rowSet (peer c i)) f) by iintro H; iexists f; iexact H)
  iapply h
  iexact Hs

/-- A result buffer come back: the device's own rows, and those each device behind it wrote. -/
theorem out_join (c : Dev nD) :
    iprop(outAt c (rowSet c) (ov m c) ∗ bigSep Finset.univ fun i => outAt c (rowSet (src c i)) (ov m c)) ⊢ held c cc0_stg0_0 (ov m c) := by
  rw [out_blocks, bigSep_srcs]

/-- The send buffer by its slots: the device's own, and each peer's. -/
theorem send_blocks (c : Dev nD) (f : Buf (Elt F) ((c : Thread nD τ).loc cc0_scratch3)) :
    (held c cc0_scratch3 f : sProp 𝕄) = iprop(sendAt c (slotSet c) f ∗ bigSep Finset.univ fun i => sendAt c (slotSet (peer c i)) f) := by
  have h := pointsTo_blocks (Ix := Unit) (Name := ℕ) (U := UU) (Lvl := ℕ) (ℓ := (c : Thread nD τ).loc cc0_scratch3) (I := slotSet) slotSet_disjoint slotSet_cover (q := fullShare) f
  exact h.trans ((bigSep_univ_split c).trans (congrArg (fun X => iprop(sendAt c (slotSet c) f ∗ X)) (bigSep_peers c fun t => sendAt c (slotSet t) f)))

/-! ## On entering and on leaving -/

/-- The duty tokens device `c` pays with: its signals', its fetches', its sends' and those of the receives it causes. -/
def payToks (c : Dev nD) : sProp 𝕄 :=
  iprop((bigSep Finset.univ fun i => dutyTok ER (cell (peer c i) (.inl 0)) 0 c)
    ∗ dutyTok ER (cell c (.inl 1)) 0 0 ∗ dutyTok ER (cell c (.inl 2)) 0 0
    ∗ (bigSep Finset.univ fun i => dutyTok ER (cell c (.inr (.inl i))) 0 0)
    ∗ bigSep Finset.univ fun i => dutyTok ER (cell (peer c i) (.inr (.inr i))) 0 0)

/-- Device `c`'s share of the ghost state, over the records at names `K`. -/
def ghost (K : Dev nD × CI → ℕ) (c : Dev nD) : sProp 𝕄 :=
  iprop(records m K ∗ (bigSep Finset.univ fun k => atPos ER (cell c k) 0 ∅ 0) ∗ payToks c)

/-- What device `c` starts from besides its scratch: the ghost state, the credits of its barrier and receives, the levels,
    and its two operands. -/
def start (c : Dev nD) : sProp 𝕄 :=
  iprop((∃ K, ghost m K c) ∗ cred (tallyAt (cell c (.inl 0)) () 15) ∗ (bigSep Finset.univ fun i => cred (tallyAt (cell c (.inr (.inr i))) () N))
    ∗ levAts L lv ∗ held c main_arg0 (xv m c) ∗ held c main_arg1 (wv m c))

/-- The scratch buffers, whatever they hold. -/
def scratch (c : Dev nD) : sProp 𝕄 :=
  iprop((∃ f, held (F := F) c cc0_scratch0 f) ∗ (∃ f, held c cc0_scratch1 f) ∗ (∃ f, held c cc0_scratch2 f) ∗ ∃ f, held c cc0_scratch3 f)

/-- What device `c` enters the kernel with; -/
def Φ₀ (c : Dev nD) : sProp 𝕄 := iprop(start m c ∗ scratch c)
/-- and leaves it with: the operands as they were, the scratch buffers, every semaphore at zero. -/
def Φ₁ (c : Dev nD) : sProp 𝕄 :=
  iprop((held c main_arg0 (xv m c) ∗ held c main_arg1 (wv m c)) ∗ scratch c ∗ bigSep Finset.univ fun k => semVal (cell c k) 0)

/-- The launch's data: the result block ends at `ov`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => ov m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

/-- The one grid point. -/
def t₀ : Fin cfg0.N := ⟨0, by rw [show cfg0.N = 1 from N_0]; decide⟩
theorem fin_N (t : Fin cfg0.N) : t = t₀ := by
  obtain ⟨t, ht⟩ := t; have h : cfg0.N = 1 := N_0; exact Fin.ext (by simp only [t₀]; omega)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the body starts from; -/
def bodyPre (c : Dev nD) : sProp 𝕄 :=
  iprop(Φ₀ m c ∗ owing c (O₀ c) ∗ ∃ f, held c cc0_stg0_0 f)
/-- and ends at. -/
def bodyPost (c : Dev nD) : sProp 𝕄 :=
  iprop(Φ₁ m c ∗ owing c 0 ∗ held c cc0_stg0_0 (ov m c))

/-- What the barrier hands over: every peer's rows of this device's. -/
theorem paid_bar (c : Dev nD) : (bigSep (who c (.inl 0)) fun d => pay (F := F) m c (.inl 0) d)
    = bigSep Finset.univ fun i => iprop(∃ f, outAt (peer c i) (rowSet c) f) :=
  bigSep_peers c fun d => iprop(∃ f, outAt d (rowSet c) f)

/-- A run of all fifteen is all fifteen; -/
theorem range_all (Φ : Fin 15 → sProp 𝕄) : bigSep (rangeSet 15 0 15) Φ = bigSep Finset.univ Φ := by rw [rangeSet_univ]
/-- a run of none is nothing. -/
theorem range_none (Φ : Fin 15 → sProp 𝕄) (n : ℕ) : bigSep (rangeSet 15 n n) Φ = (iprop(emp) : sProp 𝕄) := bigSep_rangeSet_empty le_rfl

/-- A loop of waits, from its credits and places to what they hand over. -/
theorem waits_seq (K : Dev nD × CI → ℕ) (c : Dev nD) (k : Fin 15 → CI) (hk : ∀ i, whole (k i) = N) (p : Fin 15 → TcProg F)
    (h : ∀ (i : Fin 15) (Q : PUnit → sProp 𝕄), iprop(waitInv (F := F) m K c k i.val ∗ (waitInv m K c k (i.val + 1) -∗ Q ⟨⟩)) ⊢ runs c (p i) Q)
    (Q : PUnit → sProp 𝕄) :
    iprop(records m K ∗ levAts L lv ∗ owing c 0 ∗ (bigSep Finset.univ fun i => cred (tallyAt (cell c (k i)) () N))
        ∗ bigSep Finset.univ fun i => atPos ER (cell c (k i)) 0 ∅ 0)
      ⊢ iprop(((owing c 0 ∗ (bigSep Finset.univ fun i => semVal (cell c (k i)) 0) ∗ bigSep Finset.univ fun i => bigSep (who c (k i)) fun d => pay m c (k i) d)
          -∗ Q ⟨⟩) -∗ runs c (seq 15 p) Q) := by
  iintro ⟨#HR, #Hlev, HO, Hc, Hat⟩ HQ
  iapply (runs_seq c 15 p (waitInv m K c k) h Q)
  isplitl [HO Hc Hat]
  · unfold waitInv
    simp only [hk]
    rw [range_all, range_none, bigSep_sep']
    isplitr; · iexact HR
    isplitr; · iexact Hlev
    isplitl [HO]; · iexact HO
    isplitl
    · isplitl [Hc] <;> iassumption
    iempintro
  · iintro HI
    unfold waitInv
    rw [range_all, range_none, bigSep_sep']
    icases HI with ⟨-, -, HO, -, Hz, Hp⟩
    iapply HQ
    isplitl [HO]; · iexact HO
    isplitl [Hz] <;> iassumption

/-- The body, from what a device enters it with to what it leaves with. -/
theorem sound_body (c : Dev nD) (Q : PUnit → sProp 𝕄) :
    iprop(bodyPre m c ∗ (bodyPost m c -∗ Q ⟨⟩))
      ⊢ runs c (prog xH (Memref.isWhole_whole _) wH (Memref.isWhole_whole _) oM (Memref.isWhole_whole _) xM (Memref.isWhole_whole _) wM (Memref.isWhole_whole _)
          yM sM (Memref.isWhole_whole _) cc0_scratch4 cc0_scratch5 cc0_scratch6 cc0_scratch7) Q := by
  unfold prog
  simp only [Prog.lift, Prog.bind_op, Prog.bind_ret, wp_deviceId]
  simp only [wp_bind]
  unfold bodyPre Φ₀ start ghost payToks scratch
  iintro ⟨⟨⟨⟨⟨%K, #HR, Hat, HtB, Htx, Htw, HtS, HtV⟩, HcB, HcV, #Hlev, Hx, Hw⟩, Hxs, Hws, Hys, Hss⟩, HO, ⟨%f0, Hout⟩⟩, HQ⟩
  ihave Hat := (Entails.of_eq (bigSep_CI (F := F) fun k => atPos ER (cell c k) 0 ∅ 0)) $$ Hat
  icases Hat with ⟨⟨HaB, Hax, Haw⟩, HaS, HaV⟩
  ihave Hout := (out_split c f0) $$ Hout
  icases Hout with ⟨Hown, Hrows⟩
  -- the signals
  iapply (runs_seq c 15 (sigStep c) (sigInv m K c) (sig_step m K c) _)
  isplitl [HO HtB Hrows]
  · unfold sigInv O₀
    rw [range_all, bigSep_sep']
    isplitr; · iexact HR
    isplitl [HO]; · iexact HO
    isplitl [HtB] <;> iassumption
  iintro HI
  unfold sigInv
  rw [owedBar_end, add_zero]
  icases HI with ⟨-, HO, -⟩
  -- the operands and the product
  iapply (mul_step m K c _)
  isplitl [HO Htx Hax Htw Haw Hx Hw Hxs Hws Hys]
  · unfold mulPre
    isplitr; · iexact HR
    isplitr; · iexact Hlev
    isplitl [HO]; · iexact HO
    isplitl [Htx Hax]; · isplitl [Htx] <;> iassumption
    isplitl [Htw Haw]; · isplitl [Htw] <;> iassumption
    isplitl [Hx]; · iexact Hx
    isplitl [Hw]; · iexact Hw
    isplitl [Hxs]; · iexact Hxs
    isplitl [Hws]; · iexact Hws
    iexact Hys
  unfold mulPost
  iintro ⟨HO, ⟨Hx, Hw⟩, ⟨Hxs, Hws⟩, Hys, ⟨Hzx, Hzw⟩⟩
  -- the send buffer
  icases Hss with ⟨%fs, Hss⟩
  iapply (runs_seq c 16 (fillStep yM sM (Memref.isWhole_whole _)) (fillInv m c) (fill_step m c) _)
  isplitl [Hys Hss]
  · unfold fillInv
    isplitl [Hys]; · iexact Hys
    iexists fs
    isplitr; · ipureintro; exact fun i h => absurd h (Nat.not_lt_zero _)
    iexact Hss
  iintro HI
  ihave HI := (fill_end m c) $$ HI
  icases HI with ⟨Hys, Hss⟩
  -- the device's own block
  iapply (own_step m c _)
  isplitl [Hss Hown]; · isplitl [Hss] <;> iassumption
  iintro ⟨Hss, Hown⟩
  -- the barrier
  have Hbar := fun (Q : PUnit → sProp 𝕄) => wait_close m K c (.inl 0) (.reg barSems.sem) rfl 15 rfl (.semWait barSems.sem 15) (wpE_semWait_eq 𝒱₀ (c : Thread nD τ) none Set.univ)
    (owedRecv c 0) 1 (by rw [lv_cell]; exact Nat.le_refl 1) (owedRecv_above c 0) .ret Q
  simp only [semWaitWord]
  iapply (Hbar _) $$ [HcB HO HaB]
  · isplitr; · iexact HR
    isplitr; · iexact Hlev
    isplitl [HcB]; · iexact HcB
    isplitl [HO]; · iexact HO
    iexact HaB
  iintro ⟨HO, HzB, Hrows⟩
  rw [wp_ret]
  imodintro
  ihave Hrows := (Entails.of_eq (paid_bar m c)) $$ Hrows
  -- the sends
  ihave Hss := (Entails.of_eq (send_blocks c (sv m c))) $$ Hss
  icases Hss with ⟨Hmine, Hss⟩
  iapply (runs_seq c 15 (sendStep oM (Memref.isWhole_whole _) sM (Memref.isWhole_whole _) cc0_scratch6 cc0_scratch7 c) (sendInv m K c) (send_step m K c) _)
  isplitl [HO Hss Hrows HtS HtV]
  · unfold sendInv sendNeed
    rw [range_all, range_none, bigSep_sep', bigSep_sep', bigSep_sep']
    isplitr; · iexact HR
    isplitl [HO]; · iexact HO
    isplitl
    · isplitl [Hss]; · iexact Hss
      isplitl [Hrows]; · iexact Hrows
      isplitl [HtS] <;> iassumption
    iempintro
  iintro HI
  unfold sendInv
  rw [owedRecv_end, range_all]
  icases HI with ⟨-, HO, -, HcS⟩
  -- the blocks received
  iapply (waits_seq m K c (fun i => .inr (.inr i)) (fun _ => rfl) _ (recv_step m K c) _) $$ [HO HcV HaV]
  · isplitr; · iexact HR
    isplitr; · iexact Hlev
    isplitl [HO]; · iexact HO
    isplitl [HcV] <;> iassumption
  iintro ⟨HO, HzV, HpV⟩
  -- the blocks gone
  iapply (waits_seq m K c (fun i => .inr (.inl i)) (fun _ => rfl) _ (done_step m K c) _) $$ [HO HcS HaS]
  · isplitr; · iexact HR
    isplitr; · iexact Hlev
    isplitl [HO]; · iexact HO
    isplitl [HcS] <;> iassumption
  iintro ⟨HO, HzS, HpS⟩
  ihave HpV := (Entails.of_eq (bigSep_congr fun i _ => paid_once m c (.inr (.inr i)) rfl)) $$ HpV
  ihave HpS := (Entails.of_eq (bigSep_congr fun i _ => paid_once m c (.inr (.inl i)) rfl)) $$ HpS
  iapply HQ
  unfold bodyPost Φ₁ scratch
  isplitr [HO Hown HpV]
  · isplitl [Hx Hw]; · isplitl [Hx] <;> iassumption
    isplitl [Hxs Hws Hys Hmine HpS]
    · isplitl [Hxs]; · iexists _; iexact Hxs
      isplitl [Hws]; · iexists _; iexact Hws
      isplitl [Hys]; · iexists _; iexact Hys
      iexists (sv m c)
      iapply (Entails.of_eq (send_blocks c (sv m c)).symm)
      isplitl [Hmine]; · iexact Hmine
      iexact HpS
    · iapply (Entails.of_eq (bigSep_CI (F := F) fun k => semVal (cell c k) 0).symm)
      isplitl [HzB Hzx Hzw]
      · isplitl [HzB]; · iexact HzB
        isplitl [Hzx] <;> iassumption
      isplitl [HzS] <;> iassumption
  isplitl [HO]; · iexact HO
  iapply (out_join m c)
  isplitl [Hown]; · iexact Hown
  iexact HpV

/-- What is held for the one window. -/
theorem bigSep_W (Φ : Fin cfg0.W → sProp 𝕄) : bigSep Finset.univ Φ = Φ (0 : Fin 1) := bigSep_W0 Φ

set_option maxRecDepth 8000 in
/-- The launch's obligation for the body. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show iprop(Φ₀ m c ∗ (dats m ρ 0 c).owesAt () t₀.castSucc ∗ ∃ d, ∃ f, ⌜f = (dats m ρ 0 c).before (0 : Fin 1) t₀ d⌝ ∗ held c cc0_stg0_0 f)
    ⊢ wp frame (wpE (defs₀ (F := F)) 𝒱₀ (c : Thread nD τ) none) Set.univ (bodyAt0 t₀)
      (fun _ => iprop(Φ₁ m c ∗ (dats m ρ 0 c).owesAt () t₀.succ ∗ ∃ f, ⌜f = ov m c⌝ ∗ held c cc0_stg0_0 f))
  rw [show bodyAt0 (F := F) t₀ = _ from body_eq _ _ _ _ _ _ _ _ _ _ _ _ _ _ _ _ _ _]
  unfold Dat.owesAt Pipeline.owesWithin
  iintro ⟨HΦ, ⟨%W, %hW, HO⟩, ⟨%d, %f, -, Hout⟩⟩
  iapply (sound_body m c _)
  isplitl [HΦ HO Hout]
  · unfold bodyPre owing
    isplitl [HΦ]; · iexact HΦ
    isplitl [HO]; · iexists W; iexact HO
    iexists f; iexact Hout
  unfold bodyPost owing
  iintro ⟨HΦ, ⟨%W', HO⟩, Hout⟩
  isplitl [HΦ]; · iexact HΦ
  isplitl [HO]
  · iexists W'
    isplitr; · ipureintro; exact fun _ _ => Or.inl trivial
    iexact HO
  iexists _; isplitr; · (ipureintro; rfl)
  iexact Hout

end Cert.KernelIdeal.Exchange

end
-- ==== Proof.Launch.lean ====
/- The launch: the ghost state allocated and dealt to the devices, what they owe at the start, and the run of the whole program. -/
module

public import proofs.«01_k».proof.Proof.Body
public import Idealize.ShloMosaic.Lib.Pipeline.Quiescent

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The semaphores the kernel allocates: the two fetches', the sends' and the receives'. -/
abbrev OI : Type := Fin 2 ⊕ (Fin 15 ⊕ Fin 15)
/-- Which of the exchange's they are. -/
def own : OI → CI
  | .inl 0 => .inl 1
  | .inl 1 => .inl 2
  | .inr k => .inr k
theorem own_inj : Function.Injective own := by
  have h : ∀ a b : OI, own a = own b → a = b := by decide +kernel
  exact fun a b => h a b
theorem own_ne : ∀ k : OI, own k ≠ .inl 0 := by decide +kernel

/-- The kernel's own semaphores, as the launch takes them. -/
def osem (k : OI) : SemLoc sig := csem (own k)
theorem osem_scoped : ∀ k, (osem k).isScoped .tc = true := by decide +kernel
theorem osem_stage : ∀ (k : OI) (w : Fin cfg0.W) (s : Fin (cfg0.spec w).nbuf), osem k ≠ .dma ((cfg0.spec w).sem s) := by decide +kernel
theorem ownSemFacts : Pipeline.OwnSemFacts cfg0.spec osem :=
  ⟨osem_scoped, fun _ _ h => own_inj (csem_inj h), osem_stage⟩

theorem share_eq (c : Dev nD) (w : Fin cfg0.W) : (dats m ρ 0 c).share w = fullShare := by unfold Dat.share; split <;> rfl

/-- What is held for the exchange's semaphores: the kernel's own, and the barrier. -/
theorem bigSep_own (Φ : CI → sProp 𝕄) : bigSep Finset.univ Φ = iprop((bigSep Finset.univ fun k : OI => Φ (own k)) ∗ Φ (.inl 0)) := by
  have h : (Finset.univ : Finset CI) = insert (.inl 0) (Finset.univ.map ⟨own, own_inj⟩) := by decide +kernel
  rw [h, bigSep_insert (by decide +kernel), bigSep_map]
  exact equiv_iff.mp ⟨sep_comm, sep_comm⟩

/-- The barrier semaphore is the one that outlives the kernel. -/
theorem unscopedSems0_eq (c : Dev nD) : (unscopedSems0 c : sProp 𝕄) = semVal (cell c (.inl 0)) 0 := by
  unfold unscopedSems0
  rw [bigSep_eq_bigSepL_of_eq [SemLoc.reg barSems.sem] (by decide +kernel) (by decide)]
  rfl

/-- The semaphores at zero, as the launch deals them and as the exchange takes them. -/
theorem sems_eq (c : Dev nD) :
    (bigSep Finset.univ fun k => semVal (cell c k) 0 : sProp 𝕄)
      = iprop(Pipeline.ownSems0 (Ix := Unit) (Name := ℕ) (U := UU) (Lvl := ℕ) (Val := Elt F) (τ := τ) osem c ∗ unscopedSems0 c) := by
  rw [bigSep_own, unscopedSems0_eq]; rfl

/-! ## The ghost state -/

/-- The cells of the exchange. -/
def theCells : Finset (GSem nD τ sig) := Finset.univ.map ⟨kcell, kcell_inj⟩

/-- The duty tokens of one device's cells: its barrier's, one for each device behind it, and one for each of the others. -/
def tokOf (x : Dev nD × (Fin 15 ⊕ OI)) : GSem nD τ sig × ℕ × Dev nD := match x.2 with
  | .inl i => (cell x.1 (.inl 0), 0, src x.1 i)
  | .inr k => (cell x.1 (own k), 0, 0)
theorem tokOf_inj : Function.Injective tokOf := by
  rintro ⟨c, j⟩ ⟨c', j'⟩ h
  have h1 : c = c' := by
    have := congrArg (fun x : GSem nD τ sig × ℕ × Dev nD => x.1.1.1) h
    rcases j with j | j <;> rcases j' with j' | j' <;> exact this
  subst h1
  have h2 := congrArg (fun x : GSem nD τ sig × ℕ × Dev nD => x.1.2) h
  have h3 := congrArg (fun x : GSem nD τ sig × ℕ × Dev nD => x.2.2) h
  rcases j with j | j <;> rcases j' with j' | j'
  · rw [src_inj c j j' h3]
  · exact absurd (csem_inj (show csem (.inl 0) = csem (own j') from h2)).symm (own_ne j')
  · exact absurd (csem_inj (show csem (own j) = csem (.inl 0) from h2)) (own_ne j)
  · rw [own_inj (csem_inj (show csem (own j) = csem (own j') from h2))]
/-- All of them. -/
def theToks : Finset (GSem nD τ sig × ℕ × Dev nD) := Finset.univ.map ⟨tokOf, tokOf_inj⟩

/-- The ghost state at launch. -/
def u₀ : UU := (initOf (Pipeline.cells cfgs cellOf_inj) (Pipeline.launchToks cfgs cellOf_inj), initOf theCells theToks)

/-- The duty tokens of device `c`'s own cells. -/
def toks (c : Dev nD) : sProp 𝕄 :=
  iprop((bigSep Finset.univ fun i => dutyTok ER (cell c (.inl 0)) 0 (src c i)) ∗ bigSep Finset.univ fun k => dutyTok ER (cell c (own k)) 0 0)

/-- What device `c` gets of the ghost state: its cells' rounds, its place in each, and their tokens. -/
def G (c : Dev nD) : sProp 𝕄 :=
  iprop((bigSep Finset.univ fun k => roundState ER (Rd m) (cell c k) 0)
    ∗ (bigSep Finset.univ fun k => atPos ER (cell c k) 0 ∅ 0) ∗ (bigSep Finset.univ fun k => reached ER (cell c k) 0) ∗ toks c)

/-- The ghost state at launch is every device's part. -/
theorem fund : BI.own (ER (initOf theCells theToks)) ⊢ (|==> bigSep Finset.univ (G (F := F) m) : sProp 𝕄) := by
  have hX (Φ : GSem nD τ sig → sProp 𝕄) : bigSep theCells Φ = bigSep Finset.univ fun c => bigSep Finset.univ fun k => Φ (cell c k) := by
    unfold theCells; rw [bigSep_map, bigSep_univ_prod]; rfl
  have hT : bigSep theToks (fun x => (dutyTok ER x.1 x.2.1 x.2.2 : sProp 𝕄)) = bigSep Finset.univ fun c => toks c := by
    unfold theToks; rw [bigSep_map, bigSep_univ_prod]
    exact bigSep_congr fun c _ => by unfold toks; rw [bigSep_univ_sum]; rfl
  iintro HX
  imod (Rounds.fund ER (Rd m) theCells theToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  rw [bigSep_sep', bigSep_sep', bigSep_sep']
  isplitl [Hst]; · iexact Hst
  isplitl [Hat]; · iexact Hat
  isplitl [Hr]; · iexact Hr
  iexact Htok

/-- One device's semaphores and rounds become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k => atPos ER (cell c k) 0 ∅ 0) ∗ (bigSep Finset.univ fun k => reached ER (cell c k) 0) ∗ toks c) := by
  have hinv : iprop((bigSep Finset.univ fun k => semVal (cell c k) 0) ∗ bigSep Finset.univ fun k => roundState ER (Rd m) (cell c k) 0)
      ⊢ (|={Set.univ}=> bigSep Finset.univ fun k => iprop(∃ κ : ℕ, cellInv ER (Rd m) κ (cell c k)) : sProp 𝕄) := by
    rw [← bigSep_sep']
    exact (bigSep_mono fun k _ => (Rounds.body_intro ER (Rd m) (cell c k)).trans inv_alloc).trans (bigSep_fupd _ _)
  unfold G
  iintro ⟨Hos, Hus, Hst, Hrest⟩
  ihave Hv := (Entails.of_eq (sems_eq (F := F) c).symm) $$ [Hos Hus]
  · isplitl [Hos] <;> iassumption
  imod hinv $$ [Hv Hst] with Hinv
  · isplitl [Hv] <;> iassumption
  imodintro
  isplitl [Hinv]; · iexact Hinv
  iexact Hrest

/-- The tokens dealt to those who pay the duties: a barrier's each to the device it names, a receive's to the device its
    block comes from, the others to the cell's own device. -/
theorem toks_around : (bigSep Finset.univ fun c => toks (F := F) c) ⊢ bigSep Finset.univ fun c => payToks (F := F) c := by
  have hB : (bigSep Finset.univ fun c => bigSep Finset.univ fun i => (dutyTok ER (cell c (.inl 0)) 0 (src c i) : sProp 𝕄))
      = bigSep Finset.univ fun c => bigSep Finset.univ fun i => dutyTok ER (cell (peer c i) (.inl 0)) 0 c := by
    rw [bigSep_univ_comm, bigSep_univ_comm (fun c i => (dutyTok ER (cell (peer c i) (.inl 0)) 0 c : sProp 𝕄))]
    refine bigSep_congr fun i _ => ?_
    rw [bigSep_univ_equiv (around i)]
    exact bigSep_congr fun c _ => congrArg (dutyTok ER (cell (peer c i) (.inl 0)) 0) (src_peer c i)
  have hV : (bigSep Finset.univ fun c => bigSep Finset.univ fun i => (dutyTok ER (cell c (.inr (.inr i))) 0 0 : sProp 𝕄))
      = bigSep Finset.univ fun c => bigSep Finset.univ fun i => dutyTok ER (cell (peer c i) (.inr (.inr i))) 0 0 := by
    rw [bigSep_univ_comm, bigSep_univ_comm (fun c i => (dutyTok ER (cell (peer c i) (.inr (.inr i))) 0 0 : sProp 𝕄))]
    refine bigSep_congr fun i _ => ?_
    rw [bigSep_univ_equiv (around i)]
    rfl
  have hO (c : Dev nD) : (bigSep Finset.univ fun k => (dutyTok ER (cell c (own k)) 0 0 : sProp 𝕄))
      = iprop((dutyTok ER (cell c (.inl 1)) 0 0 ∗ dutyTok ER (cell c (.inl 2)) 0 0)
        ∗ (bigSep Finset.univ fun i => dutyTok ER (cell c (.inr (.inl i))) 0 0) ∗ bigSep Finset.univ fun i => dutyTok ER (cell c (.inr (.inr i))) 0 0) := by
    rw [bigSep_univ_sum, bigSep_univ_sum, bigSep_univ_eq_bigSepL [0, 1] (by decide) (by decide)]
    rfl
  unfold toks payToks
  simp only [hO]
  simp only [bigSep_sep']
  rw [hB, hV]
  iintro ⟨HB, ⟨Hx, Hw⟩, HS, HV⟩
  isplitl [HB]; · iexact HB
  isplitl [Hx]; · iexact Hx
  isplitl [Hw]; · iexact Hw
  isplitl [HS]; · iexact HS
  iexact HV

/-- What every device may read goes with each device's own. -/
theorem with_persistent {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Device `c`'s share of the ghost state. -/
def G' (c : Dev nD) : sProp 𝕄 := iprop(∃ K, ghost m K c)

theorem ghost_intro (K : Dev nD × CI → ℕ) (c : Dev nD) :
    iprop(records m K ∗ (bigSep Finset.univ fun k => atPos ER (cell c k) 0 ∅ 0) ∗ payToks c) ⊢ G' (F := F) m c := by
  unfold G' ghost
  iintro H
  iexists K
  iexact H

/-- The invariants and tokens of all devices, regrouped by who uses them. -/
theorem regroup :
    (bigSep Finset.univ fun c : Dev nD => iprop((bigSep Finset.univ fun k => iprop(∃ κ : ℕ, cellInv ER (Rd m) κ (cell c k)))
          ∗ (bigSep Finset.univ fun k => atPos ER (cell c k) 0 ∅ 0) ∗ (bigSep Finset.univ fun k => reached ER (cell c k) 0) ∗ toks c) : sProp 𝕄)
      ⊢ bigSep Finset.univ (G' (F := F) m) := by
  rw [bigSep_sep', bigSep_sep', bigSep_sep', ← bigSep_univ_prod (fun ck : Dev nD × CI => iprop(∃ κ : ℕ, cellInv ER (Rd m) κ (kcell ck))),
    ← bigSep_univ_prod (fun ck : Dev nD × CI => (reached ER (kcell ck) 0 : sProp 𝕄))]
  iintro ⟨HI, Hat, #HR, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (with_persistent (R := records m K) fun c _ => ghost_intro m K c)
  isplitr
  · unfold records invs opened; isplitl; · iexact HI
    iexact HR
  · rw [bigSep_sep']
    isplitl [Hat]; · iexact Hat
    iexact Htk

/-- The semaphores and the ghost state of every device at once, made into what the devices start from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup m))

/-! ## What is owed at the start -/

/-- What all devices together owe a cell of device `c`, when each owes one cell of each of its peers: each peer of a
    kind that is the cell's gives `x`. -/
theorem dues (f : Fin 15 → CI) (x : ℕ) (c : Dev nD) (k : CI) :
    (∑ d : Dev nD, (∑ i ∈ rangeSet 15 0 15, (tallyAt (cell (peer d i) (f i)) () x : CellTallies nD τ sig Unit)) (cell c k) ())
      = ∑ i : Fin 15, if f i = k then x else 0 := by
  rw [rangeSet_univ]
  have h1 (d : Dev nD) : (∑ i : Fin 15, (tallyAt (cell (peer d i) (f i)) () x : CellTallies nD τ sig Unit)) (cell c k) ()
      = ∑ i : Fin 15, (tallyAt (cell (peer d i) (f i)) () x : CellTallies nD τ sig Unit) (cell c k) () := by
    rw [Finset.sum_apply, Finsupp.finset_sum_apply]
  rw [Finset.sum_congr rfl fun d _ => h1 d, Finset.sum_comm]
  refine Finset.sum_congr rfl fun i _ => ?_
  rw [Finset.sum_eq_single (src c i)]
  · rw [peer_src, tallyAt_apply]
    by_cases h : f i = k
    · rw [if_pos h, if_pos ⟨by rw [h], rfl⟩]
    · rw [if_neg h, if_neg fun e => h (csem_inj (congrArg Prod.snd e.1)).symm]
  · intro d _ hd
    rw [tallyAt_apply, if_neg fun e => hd ?_]
    have : c = peer d i := congrArg (fun g : GSem nD τ sig => g.1.1) e.1
    rw [this, src_peer]
  · exact fun h => absurd (Finset.mem_univ _) h

/-- What all devices owe a cell of device `c` at the start. -/
theorem dues_all (c : Dev nD) (k : CI) :
    (∑ d : Dev nD, O₀ d (cell c k) ()) = (∑ i : Fin 15, if (Sum.inr (Sum.inr i) : CI) = k then N else 0) + ∑ i : Fin 15, if (Sum.inl 0 : CI) = k then 1 else 0 := by
  rw [← dues (fun i => .inr (.inr i)) N c k, ← dues (fun _ => .inl 0) 1 c k, ← Finset.sum_add_distrib]
  exact Finset.sum_congr rfl fun d _ => rfl

theorem dues_bar (c : Dev nD) : (∑ d : Dev nD, O₀ d (cell c (.inl 0)) ()) = 15 := by
  rw [dues_all, Finset.sum_eq_zero fun i _ => if_neg (by intro h; cases h), Finset.sum_congr rfl fun i _ => if_pos rfl]
  rfl
theorem dues_recv (c : Dev nD) (j : Fin 15) : (∑ d : Dev nD, O₀ d (cell c (.inr (.inr j))) ()) = N := by
  rw [dues_all, Finset.sum_eq_zero (f := fun i : Fin 15 => if (Sum.inl 0 : CI) = .inr (.inr j) then 1 else 0) fun i _ => if_neg (by intro h; cases h),
    Finset.sum_eq_single j (fun i _ h => if_neg fun e => h (by cases e; rfl)) (fun h => absurd (Finset.mem_univ _) h), if_pos rfl, Nat.add_zero]

/-- The launch's credit at a cell is what is owed it. -/
theorem launch_cell (c : Dev nD) (k : CI) (x : ℕ) (h : (∑ d : Dev nD, O₀ d (cell c k) ()) = x) :
    tallyOn (cell c k) (launchCredit (Pipeline.owing O₀) 0 (cell c k)) = (tallyAt (cell c k) () x : CellTallies nD τ sig Unit) := by
  unfold tallyAt; refine congrArg _ (Finsupp.ext fun u => ?_); cases u
  rw [Pipeline.launchCredit_owing, Finsupp.single_eq_same, h]

/-- Each device starts with the credit of its barrier and of its receives. -/
theorem creds (c : Dev nD) : (Pipeline.launchCred O₀ c : sProp 𝕄)
    ⊢ iprop(cred (tallyAt (cell c (.inl 0)) () 15) ∗ bigSep Finset.univ fun i => cred (tallyAt (cell c (.inr (.inr i))) () N)) := by
  unfold Pipeline.launchCred
  refine (bigSep_subset (Finset.subset_univ (Finset.univ.map ⟨csem, csem_inj⟩))).trans ?_
  rw [bigSep_map]
  refine (Entails.of_eq (bigSep_CI (F := F) fun k => cred (tallyOn (cell c k) (launchCredit (Pipeline.owing O₀) 0 (cell c k))))).trans ?_
  rw [launch_cell c _ _ (dues_bar c), bigSep_congr fun i _ => congrArg cred (launch_cell c (.inr (.inr i)) _ (dues_recv c i))]
  iintro ⟨⟨HB, -, -⟩, -, HV⟩
  isplitl [HB] <;> iassumption

/-! ## The launch's side conditions -/

/-- The buffers that outlive the kernel, besides the result: the two operands. -/
theorem args_eq (c : Dev nD) :
    (Pipeline.unscopedRestP (Ix := Unit) (Name := ℕ) (U := UU) (Lvl := ℕ) (Val := Elt F) Pipeline.Prefetch.none cfg0.spec c (fun b => m ((c : Thread nD τ).loc b)) : sProp 𝕄)
      = iprop(held c main_arg0 (xv m c) ∗ held c main_arg1 (wv m c)) := by
  rw [Pipeline.unscopedRestP_eq_of_list (c := c) (pre := Pipeline.Prefetch.none) _ _ [main_arg0, main_arg1] (by decide +kernel) (by decide)]
  rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start (F := F) m c ∗ emp) := by
  rw [args_eq]
  iintro ⟨⟨Hx, Hw⟩, Hlev, Hcr, -, HG⟩
  ihave Hc := (creds (F := F) c) $$ Hcr
  icases Hc with ⟨HB, HV⟩
  imodintro
  unfold start G'
  isplitl
  · isplitl [HG]; · iexact HG
    isplitl [HB]; · iexact HB
    isplitl [HV]; · iexact HV
    isplitl [Hlev]; · iexact Hlev
    isplitl [Hx] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What a device holds when the program ends: its operands unchanged, the barrier semaphore at zero. -/
def left (c : Dev nD) : sProp 𝕄 := iprop((held c main_arg0 (xv m c) ∗ held c main_arg1 (wv m c)) ∗ unscopedSems0 c)

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq]
  unfold Φ₁ scratch left
  rw [sems_eq]
  iintro ⟨Ha, Hr, Hos, Hus⟩
  isplitl [Ha Hus]; · isplitl [Ha] <;> iassumption
  isplitl [Hos]; · iexact Hos
  iexact Hr

/-- The staging semaphore is none of the exchange's. -/
theorem stage_kind : ∀ (w : Fin cfg0.W) (s : Fin (cfg0.spec w).nbuf) (k : CI), csem k ≠ .dma ((cfg0.spec w).sem s) := by decide +kernel
theorem lv_stage (c : Dev nD) (w : Fin cfg0.W) (s : Fin (cfg0.spec w).nbuf) : lv ((c : Thread nD τ), .dma ((cfg0.spec w).sem s)) () = 0 := by
  have h : kindOf (.dma ((cfg0.spec w).sem s)) = none := dif_neg fun ⟨k, hk⟩ => stage_kind w s k hk
  unfold lv; rw [h]

theorem waits (c : Dev nD) : (levAts L lv : sProp 𝕄) ⊢ Pipeline.cellsWaits cfgs (dats m ρ) () 0 c :=
  Pipeline.cellsWaits_intro cfgs (dats m ρ) () 0 c fun w s t =>
    mayWait c _ 0 _ (Nat.le_of_eq (lv_stage c w s)) (by
      rcases t with ⟨_ | _, ht⟩
      · exact O₀_above c
      · exact Above.zero 0)

/-! ## The run -/

/-- A state whose device `c` has its operands unchanged and its unscoped semaphores at zero. -/
def Unchanged (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ ∀ sm : SemLoc sig, sm.isScoped .tc = false → s.sem ((c : Thread nD τ), sm) = 0

/-- What a device holds when the program ends is what the state has. -/
theorem left_read (c : Dev nD) (s' : Phys nD τ sig (Elt F)) :
    iprop(left m c ∗ emp ∗ SI s') ⊢ |={Set.univ}=> iprop(⌜Unchanged m c s'.mem⌝ ∗ (SI s' : sProp 𝕄)) := by
  unfold left
  iintro ⟨⟨⟨Hx, Hw⟩, Hu⟩, -, HSI⟩
  icombine HSI Hx gives %hx
  icombine HSI Hw gives %hw
  ihave %hu := (tcUnscoped_read c s') $$ [Hu HSI]
  · isplitl [Hu] <;> iassumption
  imodintro
  isplitr
  · ipureintro
    exact ⟨⟨Buf.eq_of_forall_mem_univ hx, Buf.eq_of_forall_mem_univ hw⟩, hu⟩
  iexact HSI

/-- The result array of device `c` when the program ends. -/
def result (c : Dev nD) : Buf (Elt F) ((c : Thread nD τ).loc main_v1) := (dats m ρ 0 c).arrAt (0 : Fin 1) cfg0.N

/-- How the program ends: every result array at its contents, the operands unchanged. -/
def Ends (r : PUnit × MemSt nD τ sig (Elt F)) : Prop :=
  ∀ c : Dev nD, r.2.mem ((c : Thread nD τ).loc main_v1) = result m ρ c
    ∧ r.2.mem ((c : Thread nD τ).loc main_arg0) = m ((c : Thread nD τ).loc main_arg0) ∧ r.2.mem ((c : Thread nD τ).loc main_arg1) = m ((c : Thread nD τ).loc main_arg1)

set_option maxRecDepth 8000 in
/-- From any memory with zero counters, every weakly fair execution of the program on the sixteen devices terminates, with
    every device's result array at its contents, the operands unchanged and every semaphore counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := Unchanged m)
    (hY := left_read m)
    (hQ := fun _ h hs => ⟨fun c => ⟨(h c).1 (0 : Fin 1), (h c).2.2.1⟩, sem_eq_zero hs fun c => (h c).2.2.2⟩)

end Cert.KernelIdeal.Exchange

end
-- ==== Proof.Value.lean ====
/- What the kernel computes: the result array holds the column block of the products, and over the extended reals that is
   the column block of one product of the whole arrays. -/
module

public import proofs.«01_k».proof.Proof.Launch
public import proofs.«01_k».proof.Proof.Gen.ReferenceIdeal
public import Idealize.ShloMosaic.Lib.Layout
public import Idealize.ShloMosaic.Lib.MatmulPlain
public import Idealize.ShloMosaic.Lib.StackMember
public import Idealize.ShloMosaic.Lib.Pipeline.Value
public import Idealize.ShloMosaic.PureOps.Ideal

@[expose] public section

noncomputable section

namespace Cert.KernelIdeal.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result array -/

/-- The window's block is the whole array. -/
theorem blk_emb (t : Fin cfg0.N) (i : S1024x64.Idx) : ((cfg0.win (0 : Fin 1)).blk t).view.emb i = i := by
  rw [fin_N t]
  refine funext fun a => Fin.ext ?_
  refine (win0_0.rect_emb_val_of_index_zero t₀ a ?_ i).trans rfl
  revert a; decide +kernel

/-- The result array ends at what the body leaves in its block. -/
theorem result_eq (c : Dev nD) : result m ρ c = ov m c :=
  (dats (F := F) m ρ 0 c).arrAt_eq_of_cover (0 : Fin 1) (ov m c)
    (fun t _ => by
      rw [fin_N t]
      refine funext fun i => ?_
      exact (congrArg (ov m c) (blk_emb t₀ i)).symm)
    (fun i => ⟨t₀, flush0_0 t₀, Finset.mem_map.mpr ⟨i, Finset.mem_univ _, blk_emb t₀ i⟩⟩)

/-! ## Over the extended reals -/

section ideal

variable (m : (ℓ : Loc nD τ sig) → Buf (Elt Ideal) ℓ)

/-- A device's product, at a row and a column. -/
theorem yv_apply (c : Dev nD) (a : Fin 64) (b : Fin 1024) :
    yv m c (ix2 a b) = ∑ k : Fin 1024, xv m c (ix2 a k) * wv m c (ix2 k b) := by
  have h : yv m c = FloatOps.matmul (φ₁ := .f32) (φ₂ := .f32) (DotDims.plain 64 1024 1024) none (xv m c) (wv m c) (constant S64x1024 .f32 0x00000000#32) := by
    unfold yv k0_pay1
    exact shapeCast_self _ _
  rw [h, Ideal.matmul_plain_apply]
  show Ideal.ofBits .f32 0x00000000#32 + _ = _
  rw [Ideal.ofBits_zero_f32, zero_add]

/-- Column `64 t + b`. -/
theorem yR_emb (t : Fin 16) (x : S64x64.Idx) : (yR t).emb x = ix2 (x 0) (rowIx t (x 1)) := by
  refine funext fun a => ?_
  match a with
  | ⟨0, _⟩ => refine Fin.ext ?_; rw [Rect.emb_apply]; show 0 + 1 * (x 0).val = (x 0).val; omega
  | ⟨1, _⟩ => refine Fin.ext ?_; rw [Rect.emb_apply]; show 64 * t.val + 1 * (x 1).val = 64 * t.val + (x 1).val; omega

/-- A block of a device's product is its entries. -/
theorem blk_apply (s t : Dev nD) (x : S64x64.Idx) : blk m s t x = yv m s (ix2 (x 0) (rowIx t (x 1))) :=
  congrArg (yv m s) (yR_emb t x)

/-- The reference's result from its arguments. -/
def whole_product (x w : FVec Ideal (⟨2, ![1024, 1024]⟩ : Shape) .f32) : FVec Ideal (⟨2, ![1024, 1024]⟩ : Shape) .bf16 :=
  truncf .bf16 (Host.dotGeneral Cert.ReferenceIdeal.dot_S1024x1024_S1024x1024_S1024x1024_1_0_0_1_n_n none x w) Cert.ReferenceIdeal.Facts₀.bitsLt_bf16_f32

/-- The reference's result at a row and a column. -/
theorem whole_product_apply (x w : FVec Ideal (⟨2, ![1024, 1024]⟩ : Shape) .f32) (a b : Fin 1024) :
    whole_product x w (ix2 a b) = ∑ k : Fin 1024, x (ix2 a k) * w (ix2 k b) :=
  StackMember.dotGeneral_plain_apply none x w a b

/-- Where the devices hold the rows of `x` and all of `w`, device `c`'s result is column block `c` of the reference's. -/
theorem ov_eq (x w : FVec Ideal (⟨2, ![1024, 1024]⟩ : Shape) .f32)
    (hx : ∀ c : Dev nD, xv m c = Layout.block ⟨2, ![64, 1024]⟩ ⟨2, ![1024, 1024]⟩ 0 16 c x) (hw : ∀ c : Dev nD, wv m c = w) (c : Dev nD) :
    ov m c = Layout.block ⟨2, ![1024, 64]⟩ ⟨2, ![1024, 1024]⟩ 1 16 c (whole_product x w) := by
  refine funext fun i => ?_
  have hcol : (Layout.Tiles.idx (S := ⟨2, ![1024, 64]⟩) (T := ⟨2, ![1024, 1024]⟩) (a := 1) (k := 16) (by decide) c i) = ix2 (i 0) (rowIx c (i 1)) := by
    refine funext fun a => ?_
    match a with
    | ⟨0, _⟩ => exact Fin.ext rfl
    | ⟨1, _⟩ => refine Fin.ext ?_; show c.val * 64 + (i 1).val = 64 * c.val + (i 1).val; omega
  have hrow (k : Fin 1024) : (Layout.Tiles.idx (S := ⟨2, ![64, 1024]⟩) (T := ⟨2, ![1024, 1024]⟩) (a := 0) (k := 16) (by decide) (rowBlk (i 0)) (ix2 (rowIn (i 0)) k))
      = ix2 (i 0) k := by
    refine funext fun a => ?_
    match a with
    | ⟨0, _⟩ => refine Fin.ext ?_; show (i 0).val / 64 * 64 + (i 0).val % 64 = (i 0).val; omega
    | ⟨1, _⟩ => exact Fin.ext rfl
  have hl : ov m c i = ∑ k : Fin 1024, xv m (rowBlk (i 0)) (ix2 (rowIn (i 0)) k) * wv m (rowBlk (i 0)) (ix2 k (rowIx c (i 1))) :=
    (blk_apply m (rowBlk (i 0)) c (ix2 (rowIn (i 0)) (i 1))).trans (yv_apply m (rowBlk (i 0)) (rowIn (i 0)) (rowIx c (i 1)))
  have hr : (Layout.block ⟨2, ![1024, 64]⟩ ⟨2, ![1024, 1024]⟩ 1 16 c (whole_product x w) : FVec Ideal (⟨2, ![1024, 64]⟩ : Shape) .bf16) i = ∑ k : Fin 1024, x (ix2 (i 0) k) * w (ix2 k (rowIx c (i 1))) :=
    (congrArg (whole_product x w) hcol).trans (whole_product_apply x w (i 0) (rowIx c (i 1)))
  rw [hl, hr]
  refine Finset.sum_congr rfl fun k _ => ?_
  rw [hx, hw]
  exact congrArg (· * w (ix2 k (rowIx c (i 1)))) (congrArg x (hrow k))

end ideal

end Cert.KernelIdeal.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Cert.KernelIdeal.Exchange (run_main result_eq whole_product ov_eq)

/-- The two printings' kernel bodies are one program. -/
theorem body_eq : @Cert.KernelIdeal.cc0_body Bits _ Cert.KernelIdeal.Gen.facts = @Cert.Kernel.cc0_body Bits _ Cert.Kernel.Gen.facts := rfl

/-- The two printings' tables of kernel bodies are equal. -/
theorem defs₀_eq : Cert.KernelIdeal.defs₀ (F := Bits) = Cert.Kernel.defs₀ (F := Bits) := by
  unfold Cert.KernelIdeal.defs₀ Cert.Kernel.defs₀
  refine congrArg Defs.onTc ?_
  funext l a
  match l, a with
  | ⟨0, _⟩, (t, s) => rfl

/-- The two printings' whole body tables are equal. -/
theorem defs_eq : Cert.KernelIdeal.defs (F := Bits) = Cert.Kernel.defs (F := Bits) := congrArg (Pipeline.defs Cert.Kernel.pcfgs) defs₀_eq

/-- The kernel runs, keeps its arguments and ends with every counter at zero. -/
theorem frame_kernel : Cert.quiescent_Kernel := fun m ρ _ => by
  rw [← defs_eq]
  exact (θ_run Cert.KernelIdeal.defs _ _).mono (fun _ h => ⟨fun c => (h.1 c).2, h.2⟩) (run_main (F := Bits) m ρ)

/-- So does the kernel read over the extended reals. -/
theorem frame_kernelIdeal : Cert.quiescent_KernelIdeal := fun m ρ _ =>
  (θ_run Cert.KernelIdeal.defs _ _).mono (fun _ h => ⟨fun c => (h.1 c).2, h.2⟩) (run_main (F := Ideal) m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the devices hold the rows of `x` and copies of `w`, they end holding the column blocks of the reference's product. -/
theorem algebraic : Cert.algebraic_KernelIdeal_ReferenceIdeal := fun m ρ m' ρ' _ hargs =>
  ⟨whole_product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans ((result_eq (F := Ideal) m ρ c).trans
        (ov_eq m _ _ (fun d => (hargs d).1) (fun d => (hargs d).2) c)), (h.1 c).2⟩) (run_main (F := Ideal) m ρ),
    (θ_run Cert.ReferenceIdeal.defs _ _).mono (fun _ h => h 0) (Cert.ReferenceIdeal.Value.run (F := Ideal) m' ρ')⟩

/-- All the claims together. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
